-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_v80) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x6144 : Shape := ⟨2, ![16384, 6144]⟩
abbrev S2048x2048 : Shape := ⟨2, ![2048, 2048]⟩
abbrev S1x8x15x31 : Shape := ⟨4, ![1, 8, 15, 31]⟩
abbrev S1x8x128 : Shape := ⟨3, ![1, 8, 128]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S1x1x31x64x64 : Shape := ⟨5, ![1, 1, 31, 64, 64]⟩
abbrev S8x15x31x1x1 : Shape := ⟨5, ![8, 15, 31, 1, 1]⟩
abbrev S8x15x31x64x64 : Shape := ⟨5, ![8, 15, 31, 64, 64]⟩
abbrev S8x15x64x64 : Shape := ⟨4, ![8, 15, 64, 64]⟩
abbrev S1x1x64x64 : Shape := ⟨4, ![1, 1, 64, 64]⟩
abbrev S8x64x64 : Shape := ⟨3, ![8, 64, 64]⟩
abbrev S8x1x64x64 : Shape := ⟨4, ![8, 1, 64, 64]⟩
abbrev S8x64x768 : Shape := ⟨3, ![8, 64, 768]⟩
abbrev S8x256x768 : Shape := ⟨3, ![8, 256, 768]⟩
abbrev S8x1x256x768 : Shape := ⟨4, ![8, 1, 256, 768]⟩
abbrev S8x3x256x768 : Shape := ⟨4, ![8, 3, 256, 768]⟩
abbrev S8x128 : Shape := ⟨2, ![8, 128]⟩
abbrev S8x1x128 : Shape := ⟨3, ![8, 1, 128]⟩
abbrev S16384x1024 : Shape := ⟨2, ![16384, 1024]⟩
abbrev S256x512 : Shape := ⟨2, ![256, 512]⟩
abbrev S2048x512 : Shape := ⟨2, ![2048, 512]⟩
abbrev S4x1x256x768 : Shape := ⟨4, ![4, 1, 256, 768]⟩
abbrev S4x1x128 : Shape := ⟨3, ![4, 1, 128]⟩
abbrev S256x128 : Shape := ⟨2, ![256, 128]⟩
abbrev S768x128 : Shape := ⟨2, ![768, 128]⟩
abbrev S256x768 : Shape := ⟨2, ![256, 768]⟩
abbrev S1x1x256x768 : Shape := ⟨4, ![1, 1, 256, 768]⟩
abbrev S256x256 : Shape := ⟨2, ![256, 256]⟩
abbrev S256 : Shape := ⟨1, ![256]⟩
abbrev S256x1 : Shape := ⟨2, ![256, 1]⟩
abbrev S1x1x128 : Shape := ⟨3, ![1, 1, 128]⟩
abbrev S1x128 : Shape := ⟨2, ![1, 128]⟩

abbrev nBuf : Space → Nat
  | .hbm => 285
  | .vmem => 16
  | .smem => 0
  | _ => 0

abbrev hbmTy0_0 (i : Nat) : BufTy := match i % 128 with
  | 0 => ⟨S16384x6144, .bf16⟩
  | 1 => ⟨S2048x2048, .bf16⟩
  | 2 => ⟨S1x8x15x31, .f32⟩
  | 3 => ⟨S1x8x128, .f32⟩
  | 4 => ⟨S8x15x31, .f32⟩
  | 5 => ⟨S64, .i32⟩
  | 6 => ⟨S_, .i32⟩
  | 7 => ⟨S64, .i32⟩
  | 8 => ⟨S64, .i32⟩
  | 9 => ⟨S_, .i32⟩
  | 10 => ⟨S_, .i32⟩
  | 11 => ⟨S_, .i32⟩
  | 12 => ⟨S64, .i32⟩
  | 13 => ⟨S64, .i32⟩
  | 14 => ⟨S_, .i32⟩
  | 15 => ⟨S64, .i32⟩
  | 16 => ⟨S64, .i32⟩
  | 17 => ⟨S1x64, .i32⟩
  | 18 => ⟨S64x1, .i32⟩
  | 19 => ⟨S64x64, .i32⟩
  | 20 => ⟨S64x64, .i32⟩
  | 21 => ⟨S64x64, .i1⟩
  | 22 => ⟨S1x64, .i32⟩
  | 23 => ⟨S64x1, .i32⟩
  | 24 => ⟨S_, .i32⟩
  | 25 => ⟨S64x1, .i32⟩
  | 26 => ⟨S64x1, .i32⟩
  | 27 => ⟨S64x64, .i32⟩
  | 28 => ⟨S64x64, .i32⟩
  | 29 => ⟨S64x64, .i1⟩
  | 30 => ⟨S64x64, .i1⟩
  | 31 => ⟨S1x64, .i32⟩
  | 32 => ⟨S64x1, .i32⟩
  | 33 => ⟨S64x64, .i32⟩
  | 34 => ⟨S64x64, .i32⟩
  | 35 => ⟨S64x64, .i32⟩
  | 36 => ⟨S_, .i32⟩
  | 37 => ⟨S_, .i32⟩
  | 38 => ⟨S_, .i32⟩
  | 39 => ⟨S64x64, .i32⟩
  | 40 => ⟨S64x64, .i32⟩
  | 41 => ⟨S_, .i32⟩
  | 42 => ⟨S64x64, .i32⟩
  | 43 => ⟨S64x64, .i32⟩
  | 44 => ⟨S_, .i32⟩
  | 45 => ⟨S64x64, .i32⟩
  | 46 => ⟨S64x64, .i32⟩
  | 47 => ⟨S1x64x64, .i32⟩
  | 48 => ⟨S31, .i32⟩
  | 49 => ⟨S31x1x1, .i32⟩
  | 50 => ⟨S31x64x64, .i32⟩
  | 51 => ⟨S31x64x64, .i32⟩
  | 52 => ⟨S31x64x64, .i1⟩
  | 53 => ⟨S1x1x31x64x64, .i1⟩
  | 54 => ⟨S8x15x31x1x1, .f32⟩
  | 55 => ⟨S_, .f32⟩
  | 56 => ⟨S_, .f32⟩
  | 57 => ⟨S8x15x31x64x64, .i1⟩
  | 58 => ⟨S8x15x31x64x64, .f32⟩
  | 59 => ⟨S8x15x31x64x64, .f32⟩
  | 60 => ⟨S8x15x31x64x64, .f32⟩
  | 61 => ⟨S_, .f32⟩
  | 62 => ⟨S8x15x64x64, .f32⟩
  | 63 => ⟨S1x1x64x64, .i1⟩
  | 64 => ⟨S_, .f32⟩
  | 65 => ⟨S_, .f32⟩
  | 66 => ⟨S8x15x64x64, .i1⟩
  | 67 => ⟨S8x15x64x64, .f32⟩
  | 68 => ⟨S8x15x64x64, .f32⟩
  | 69 => ⟨S_, .f32⟩
  | 70 => ⟨S8x64x64, .f32⟩
  | 71 => ⟨S8x1x64x64, .f32⟩
  | 72 => ⟨S8x64x64, .f32⟩
  | 73 => ⟨S8x1x64x64, .f32⟩
  | 74 => ⟨S8x64x64, .f32⟩
  | 75 => ⟨S8x1x64x64, .f32⟩
  | 76 => ⟨S8x64x64, .f32⟩
  | 77 => ⟨S8x1x64x64, .f32⟩
  | 78 => ⟨S8x64x64, .f32⟩
  | 79 => ⟨S8x1x64x64, .f32⟩
  | 80 => ⟨S8x64x64, .f32⟩
  | 81 => ⟨S8x1x64x64, .f32⟩
  | 82 => ⟨S8x64x64, .f32⟩
  | 83 => ⟨S8x1x64x64, .f32⟩
  | 84 => ⟨S8x64x64, .f32⟩
  | 85 => ⟨S8x1x64x64, .f32⟩
  | 86 => ⟨S8x64x64, .f32⟩
  | 87 => ⟨S8x64x768, .f32⟩
  | 88 => ⟨S8x1x64x64, .f32⟩
  | 89 => ⟨S8x64x64, .f32⟩
  | 90 => ⟨S8x1x64x64, .f32⟩
  | 91 => ⟨S8x64x64, .f32⟩
  | 92 => ⟨S8x1x64x64, .f32⟩
  | 93 => ⟨S8x64x64, .f32⟩
  | 94 => ⟨S8x1x64x64, .f32⟩
  | 95 => ⟨S8x64x64, .f32⟩
  | 96 => ⟨S8x1x64x64, .f32⟩
  | 97 => ⟨S8x64x64, .f32⟩
  | 98 => ⟨S8x1x64x64, .f32⟩
  | 99 => ⟨S8x64x64, .f32⟩
  | 100 => ⟨S8x1x64x64, .f32⟩
  | 101 => ⟨S8x64x64, .f32⟩
  | 102 => ⟨S8x1x64x64, .f32⟩
  | 103 => ⟨S8x64x64, .f32⟩
  | 104 => ⟨S8x64x768, .f32⟩
  | 105 => ⟨S8x1x64x64, .f32⟩
  | 106 => ⟨S8x64x64, .f32⟩
  | 107 => ⟨S8x1x64x64, .f32⟩
  | 108 => ⟨S8x64x64, .f32⟩
  | 109 => ⟨S8x1x64x64, .f32⟩
  | 110 => ⟨S8x64x64, .f32⟩
  | 111 => ⟨S8x1x64x64, .f32⟩
  | 112 => ⟨S8x64x64, .f32⟩
  | 113 => ⟨S8x1x64x64, .f32⟩
  | 114 => ⟨S8x64x64, .f32⟩
  | 115 => ⟨S8x1x64x64, .f32⟩
  | 116 => ⟨S8x64x64, .f32⟩
  | 117 => ⟨S8x1x64x64, .f32⟩
  | 118 => ⟨S8x64x64, .f32⟩
  | 119 => ⟨S8x1x64x64, .f32⟩
  | 120 => ⟨S8x64x64, .f32⟩
  | 121 => ⟨S8x64x768, .f32⟩
  | 122 => ⟨S8x1x64x64, .f32⟩
  | 123 => ⟨S8x64x64, .f32⟩
  | 124 => ⟨S8x1x64x64, .f32⟩
  | 125 => ⟨S8x64x64, .f32⟩
  | 126 => ⟨S8x1x64x64, .f32⟩
  | 127 => ⟨S8x64x64, .f32⟩
  | _ => ⟨S16384x6144, .bf16⟩

abbrev hbmTy0_1 (i : Nat) : BufTy := match i % 128 with
  | 0 => ⟨S8x1x64x64, .f32⟩
  | 1 => ⟨S8x64x64, .f32⟩
  | 2 => ⟨S8x1x64x64, .f32⟩
  | 3 => ⟨S8x64x64, .f32⟩
  | 4 => ⟨S8x1x64x64, .f32⟩
  | 5 => ⟨S8x64x64, .f32⟩
  | 6 => ⟨S8x1x64x64, .f32⟩
  | 7 => ⟨S8x64x64, .f32⟩
  | 8 => ⟨S8x1x64x64, .f32⟩
  | 9 => ⟨S8x64x64, .f32⟩
  | 10 => ⟨S8x64x768, .f32⟩
  | 11 => ⟨S8x256x768, .f32⟩
  | 12 => ⟨S8x1x64x64, .f32⟩
  | 13 => ⟨S8x64x64, .f32⟩
  | 14 => ⟨S8x1x64x64, .f32⟩
  | 15 => ⟨S8x64x64, .f32⟩
  | 16 => ⟨S8x1x64x64, .f32⟩
  | 17 => ⟨S8x64x64, .f32⟩
  | 18 => ⟨S8x1x64x64, .f32⟩
  | 19 => ⟨S8x64x64, .f32⟩
  | 20 => ⟨S8x1x64x64, .f32⟩
  | 21 => ⟨S8x64x64, .f32⟩
  | 22 => ⟨S8x1x64x64, .f32⟩
  | 23 => ⟨S8x64x64, .f32⟩
  | 24 => ⟨S8x1x64x64, .f32⟩
  | 25 => ⟨S8x64x64, .f32⟩
  | 26 => ⟨S8x1x64x64, .f32⟩
  | 27 => ⟨S8x64x64, .f32⟩
  | 28 => ⟨S8x64x768, .f32⟩
  | 29 => ⟨S8x1x64x64, .f32⟩
  | 30 => ⟨S8x64x64, .f32⟩
  | 31 => ⟨S8x1x64x64, .f32⟩
  | 32 => ⟨S8x64x64, .f32⟩
  | 33 => ⟨S8x1x64x64, .f32⟩
  | 34 => ⟨S8x64x64, .f32⟩
  | 35 => ⟨S8x1x64x64, .f32⟩
  | 36 => ⟨S8x64x64, .f32⟩
  | 37 => ⟨S8x1x64x64, .f32⟩
  | 38 => ⟨S8x64x64, .f32⟩
  | 39 => ⟨S8x1x64x64, .f32⟩
  | 40 => ⟨S8x64x64, .f32⟩
  | 41 => ⟨S8x1x64x64, .f32⟩
  | 42 => ⟨S8x64x64, .f32⟩
  | 43 => ⟨S8x1x64x64, .f32⟩
  | 44 => ⟨S8x64x64, .f32⟩
  | 45 => ⟨S8x64x768, .f32⟩
  | 46 => ⟨S8x1x64x64, .f32⟩
  | 47 => ⟨S8x64x64, .f32⟩
  | 48 => ⟨S8x1x64x64, .f32⟩
  | 49 => ⟨S8x64x64, .f32⟩
  | 50 => ⟨S8x1x64x64, .f32⟩
  | 51 => ⟨S8x64x64, .f32⟩
  | 52 => ⟨S8x1x64x64, .f32⟩
  | 53 => ⟨S8x64x64, .f32⟩
  | 54 => ⟨S8x1x64x64, .f32⟩
  | 55 => ⟨S8x64x64, .f32⟩
  | 56 => ⟨S8x1x64x64, .f32⟩
  | 57 => ⟨S8x64x64, .f32⟩
  | 58 => ⟨S8x1x64x64, .f32⟩
  | 59 => ⟨S8x64x64, .f32⟩
  | 60 => ⟨S8x1x64x64, .f32⟩
  | 61 => ⟨S8x64x64, .f32⟩
  | 62 => ⟨S8x64x768, .f32⟩
  | 63 => ⟨S8x1x64x64, .f32⟩
  | 64 => ⟨S8x64x64, .f32⟩
  | 65 => ⟨S8x1x64x64, .f32⟩
  | 66 => ⟨S8x64x64, .f32⟩
  | 67 => ⟨S8x1x64x64, .f32⟩
  | 68 => ⟨S8x64x64, .f32⟩
  | 69 => ⟨S8x1x64x64, .f32⟩
  | 70 => ⟨S8x64x64, .f32⟩
  | 71 => ⟨S8x1x64x64, .f32⟩
  | 72 => ⟨S8x64x64, .f32⟩
  | 73 => ⟨S8x1x64x64, .f32⟩
  | 74 => ⟨S8x64x64, .f32⟩
  | 75 => ⟨S8x1x64x64, .f32⟩
  | 76 => ⟨S8x64x64, .f32⟩
  | 77 => ⟨S8x1x64x64, .f32⟩
  | 78 => ⟨S8x64x64, .f32⟩
  | 79 => ⟨S8x64x768, .f32⟩
  | 80 => ⟨S8x256x768, .f32⟩
  | 81 => ⟨S8x1x64x64, .f32⟩
  | 82 => ⟨S8x64x64, .f32⟩
  | 83 => ⟨S8x1x64x64, .f32⟩
  | 84 => ⟨S8x64x64, .f32⟩
  | 85 => ⟨S8x1x64x64, .f32⟩
  | 86 => ⟨S8x64x64, .f32⟩
  | 87 => ⟨S8x1x64x64, .f32⟩
  | 88 => ⟨S8x64x64, .f32⟩
  | 89 => ⟨S8x1x64x64, .f32⟩
  | 90 => ⟨S8x64x64, .f32⟩
  | 91 => ⟨S8x1x64x64, .f32⟩
  | 92 => ⟨S8x64x64, .f32⟩
  | 93 => ⟨S8x1x64x64, .f32⟩
  | 94 => ⟨S8x64x64, .f32⟩
  | 95 => ⟨S8x1x64x64, .f32⟩
  | 96 => ⟨S8x64x64, .f32⟩
  | 97 => ⟨S8x64x768, .f32⟩
  | 98 => ⟨S8x1x64x64, .f32⟩
  | 99 => ⟨S8x64x64, .f32⟩
  | 100 => ⟨S8x1x64x64, .f32⟩
  | 101 => ⟨S8x64x64, .f32⟩
  | 102 => ⟨S8x1x64x64, .f32⟩
  | 103 => ⟨S8x64x64, .f32⟩
  | 104 => ⟨S8x1x64x64, .f32⟩
  | 105 => ⟨S8x64x64, .f32⟩
  | 106 => ⟨S8x1x64x64, .f32⟩
  | 107 => ⟨S8x64x64, .f32⟩
  | 108 => ⟨S8x1x64x64, .f32⟩
  | 109 => ⟨S8x64x64, .f32⟩
  | 110 => ⟨S8x1x64x64, .f32⟩
  | 111 => ⟨S8x64x64, .f32⟩
  | 112 => ⟨S8x1x64x64, .f32⟩
  | 113 => ⟨S8x64x64, .f32⟩
  | 114 => ⟨S8x64x768, .f32⟩
  | 115 => ⟨S8x1x64x64, .f32⟩
  | 116 => ⟨S8x64x64, .f32⟩
  | 117 => ⟨S8x1x64x64, .f32⟩
  | 118 => ⟨S8x64x64, .f32⟩
  | 119 => ⟨S8x1x64x64, .f32⟩
  | 120 => ⟨S8x64x64, .f32⟩
  | 121 => ⟨S8x1x64x64, .f32⟩
  | 122 => ⟨S8x64x64, .f32⟩
  | 123 => ⟨S8x1x64x64, .f32⟩
  | 124 => ⟨S8x64x64, .f32⟩
  | 125 => ⟨S8x1x64x64, .f32⟩
  | 126 => ⟨S8x64x64, .f32⟩
  | 127 => ⟨S8x1x64x64, .f32⟩
  | _ => ⟨S16384x6144, .bf16⟩

abbrev hbmTy0_2 (i : Nat) : BufTy := match i % 128 with
  | 0 => ⟨S8x64x64, .f32⟩
  | 1 => ⟨S8x1x64x64, .f32⟩
  | 2 => ⟨S8x64x64, .f32⟩
  | 3 => ⟨S8x64x768, .f32⟩
  | 4 => ⟨S8x1x64x64, .f32⟩
  | 5 => ⟨S8x64x64, .f32⟩
  | 6 => ⟨S8x1x64x64, .f32⟩
  | 7 => ⟨S8x64x64, .f32⟩
  | 8 => ⟨S8x1x64x64, .f32⟩
  | 9 => ⟨S8x64x64, .f32⟩
  | 10 => ⟨S8x1x64x64, .f32⟩
  | 11 => ⟨S8x64x64, .f32⟩
  | 12 => ⟨S8x1x64x64, .f32⟩
  | 13 => ⟨S8x64x64, .f32⟩
  | 14 => ⟨S8x1x64x64, .f32⟩
  | 15 => ⟨S8x64x64, .f32⟩
  | 16 => ⟨S8x1x64x64, .f32⟩
  | 17 => ⟨S8x64x64, .f32⟩
  | 18 => ⟨S8x1x64x64, .f32⟩
  | 19 => ⟨S8x64x64, .f32⟩
  | 20 => ⟨S8x64x768, .f32⟩
  | 21 => ⟨S8x256x768, .f32⟩
  | 22 => ⟨S8x1x256x768, .f32⟩
  | 23 => ⟨S8x1x256x768, .f32⟩
  | 24 => ⟨S8x1x256x768, .f32⟩
  | 25 => ⟨S8x3x256x768, .f32⟩
  | 26 => ⟨S8x128, .f32⟩
  | 27 => ⟨S8x1x128, .f32⟩
  | 28 => ⟨S16384x1024, .bf16⟩
  | _ => ⟨S16384x6144, .bf16⟩

abbrev hbmTy (i : Nat) : BufTy := match i / 128 with
  | 0 => hbmTy0_0 i
  | 1 => hbmTy0_1 i
  | 2 => hbmTy0_2 i
  | _ => ⟨S16384x6144, .bf16⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S4x1x256x768, .f32⟩
  | .local _ .vmem, ⟨11, _⟩ => ⟨S4x1x256x768, .f32⟩
  | .local _ .vmem, ⟨12, _⟩ => ⟨S4x1x128, .f32⟩
  | .local _ .vmem, ⟨13, _⟩ => ⟨S4x1x128, .f32⟩
  | .local _ .vmem, ⟨14, _⟩ => ⟨S256x512, .bf16⟩
  | .local _ .vmem, ⟨15, _⟩ => ⟨S256x512, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v37 : Ref sig .tc := ⟨.hbm, 68, rfl⟩
abbrev main_cst_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 8], ![false, false, false]⟩

def k0_mult1 (i : grid0.Coords) : BitVec 32 :=
  let c20_i32 : BitVec 32 := 20#32
  let c0_i32 : BitVec 32 := 0#32
  let c4_i32 : BitVec 32 := 4#32
  let arg2 : BitVec 32 := BitVec.ofNat 32 (i 2).val
  let v0 : BitVec 32 := Scalar.muli c4_i32 arg2
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  v4
def k0_off1 (i : grid0.Coords) : Fin 2 → Nat :=
  let c20_i32 : BitVec 32 := 20#32
  let c0_i32 : BitVec 32 := 0#32
  let c4_i32 : BitVec 32 := 4#32
  let arg2 : BitVec 32 := BitVec.ofNat 32 (i 2).val
  let v0 : BitVec 32 := Scalar.muli c4_i32 arg2
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v7 : Index := Scalar.indexCast v5
  let c0_2 : Index := 0#32
  ![v7.toNat, 0]
def k0_off2 (i : grid0.Coords) : Fin 2 → Nat :=
  let c20_i32 : BitVec 32 := 20#32
  let c0_i32 : BitVec 32 := 0#32
  let c4_i32 : BitVec 32 := 4#32
  let arg2 : BitVec 32 := BitVec.ofNat 32 (i 2).val
  let v0 : BitVec 32 := Scalar.muli c4_i32 arg2
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v58 : Index := Scalar.indexCast v5
  let c128_28 : Index := 128#32
  ![v58.toNat, 128]
def k0_off3 (i : grid0.Coords) : Fin 2 → Nat :=
  let c20_i32 : BitVec 32 := 20#32
  let c0_i32 : BitVec 32 := 0#32
  let c4_i32 : BitVec 32 := 4#32
  let arg2 : BitVec 32 := BitVec.ofNat 32 (i 2).val
  let v0 : BitVec 32 := Scalar.muli c4_i32 arg2
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v109 : Index := Scalar.indexCast v5
  let c256_54 : Index := 256#32
  ![v109.toNat, 256]
def k0_off4 (i : grid0.Coords) : Fin 2 → Nat :=
  let c20_i32 : BitVec 32 := 20#32
  let c0_i32 : BitVec 32 := 0#32
  let c4_i32 : BitVec 32 := 4#32
  let arg2 : BitVec 32 := BitVec.ofNat 32 (i 2).val
  let v0 : BitVec 32 := Scalar.muli c4_i32 arg2
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v160 : Index := Scalar.indexCast v5
  let c384_80 : Index := 384#32
  ![v160.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c7_i32 : BitVec 32 := 7#32
  let v1 : BitVec 1 := Scalar.cmpi .eq arg2 c7_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![arg1.toNat, v3.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4x1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S4x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
def κ : String → Option EReal := fun
  | "mask" => some ⊥
  | _ => none
-- ==== ReferenceIdeal.lean ====
abbrev S16384x6144 : Shape := ⟨2, ![16384, 6144]⟩
abbrev S2048x2048 : Shape := ⟨2, ![2048, 2048]⟩
abbrev S1x8x15x31 : Shape := ⟨4, ![1, 8, 15, 31]⟩
abbrev S1x8x128 : Shape := ⟨3, ![1, 8, 128]⟩
abbrev S8x2048x6144 : Shape := ⟨3, ![8, 2048, 6144]⟩
abbrev S8x2048x1024 : Shape := ⟨3, ![8, 2048, 1024]⟩
abbrev S8x2048x8x128 : Shape := ⟨4, ![8, 2048, 8, 128]⟩
abbrev S8x8x2048x128 : Shape := ⟨4, ![8, 8, 2048, 128]⟩
abbrev S8x256x2048 : Shape := ⟨3, ![8, 256, 2048]⟩
abbrev S8x256x1024 : Shape := ⟨3, ![8, 256, 1024]⟩
abbrev S8x256x8x128 : Shape := ⟨4, ![8, 256, 8, 128]⟩
abbrev S8x8x256x128 : Shape := ⟨4, ![8, 8, 256, 128]⟩
abbrev S8x15x31 : Shape := ⟨3, ![8, 15, 31]⟩
abbrev S8x8x32x64x128 : Shape := ⟨5, ![8, 8, 32, 64, 128]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S8x8x32x8x64x128 : Shape := ⟨6, ![8, 8, 32, 8, 64, 128]⟩
abbrev S8x8x32x64x8x64 : Shape := ⟨6, ![8, 8, 32, 64, 8, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S8x32x64x8x64 : Shape := ⟨5, ![8, 32, 64, 8, 64]⟩
abbrev S1x1x1x64x1x64 : Shape := ⟨6, ![1, 1, 1, 64, 1, 64]⟩
abbrev S1x8x32x64x8x64 : Shape := ⟨6, ![1, 8, 32, 64, 8, 64]⟩
abbrev S8x8x32x64x256 : Shape := ⟨5, ![8, 8, 32, 64, 256]⟩
abbrev S8x8x32x64x512 : Shape := ⟨5, ![8, 8, 32, 64, 512]⟩
abbrev S8x8x32x64x768 : Shape := ⟨5, ![8, 8, 32, 64, 768]⟩
abbrev S8x8x32x64 : Shape := ⟨4, ![8, 8, 32, 64]⟩
abbrev S8x8x32x64x1 : Shape := ⟨5, ![8, 8, 32, 64, 1]⟩
abbrev S8x8x32x512x128 : Shape := ⟨5, ![8, 8, 32, 512, 128]⟩
abbrev S8x32x64x8x128 : Shape := ⟨5, ![8, 32, 64, 8, 128]⟩
abbrev S8x128 : Shape := ⟨2, ![8, 128]⟩
abbrev S8x2048x8 : Shape := ⟨3, ![8, 2048, 8]⟩
abbrev S8x2048x8x1 : Shape := ⟨4, ![8, 2048, 8, 1]⟩
abbrev S1x1x8x128 : Shape := ⟨4, ![1, 1, 8, 128]⟩
abbrev S16384x1024 : Shape := ⟨2, ![16384, 1024]⟩

abbrev nBuf : Space → Nat
  | .hbm => 160
  | .vmem => 0
  | .smem => 0
  | _ => 0

abbrev hbmTy0_0 (i : Nat) : BufTy := match i % 128 with
  | 0 => ⟨S16384x6144, .bf16⟩
  | 1 => ⟨S2048x2048, .bf16⟩
  | 2 => ⟨S1x8x15x31, .f32⟩
  | 3 => ⟨S1x8x128, .f32⟩
  | 4 => ⟨S16384x6144, .f32⟩
  | 5 => ⟨S8x2048x6144, .f32⟩
  | 6 => ⟨S8x2048x1024, .f32⟩
  | 7 => ⟨S8x2048x8x128, .f32⟩
  | 8 => ⟨S8x8x2048x128, .f32⟩
  | 9 => ⟨S8x2048x1024, .f32⟩
  | 10 => ⟨S8x2048x8x128, .f32⟩
  | 11 => ⟨S8x8x2048x128, .f32⟩
  | 12 => ⟨S8x2048x1024, .f32⟩
  | 13 => ⟨S8x2048x8x128, .f32⟩
  | 14 => ⟨S8x8x2048x128, .f32⟩
  | 15 => ⟨S2048x2048, .f32⟩
  | 16 => ⟨S8x256x2048, .f32⟩
  | 17 => ⟨S8x256x1024, .f32⟩
  | 18 => ⟨S8x256x8x128, .f32⟩
  | 19 => ⟨S8x8x256x128, .f32⟩
  | 20 => ⟨S8x256x1024, .f32⟩
  | 21 => ⟨S8x256x8x128, .f32⟩
  | 22 => ⟨S8x8x256x128, .f32⟩
  | 23 => ⟨S8x15x31, .f32⟩
  | 24 => ⟨S8x8x32x64x128, .f32⟩
  | 25 => ⟨S8x8x32x64x128, .f32⟩
  | 26 => ⟨S8x8x32x64x128, .f32⟩
  | 27 => ⟨S64, .i32⟩
  | 28 => ⟨S_, .i32⟩
  | 29 => ⟨S64, .i32⟩
  | 30 => ⟨S64, .i32⟩
  | 31 => ⟨S_, .i32⟩
  | 32 => ⟨S_, .i32⟩
  | 33 => ⟨S_, .i32⟩
  | 34 => ⟨S64, .i32⟩
  | 35 => ⟨S64, .i32⟩
  | 36 => ⟨S_, .i32⟩
  | 37 => ⟨S64, .i32⟩
  | 38 => ⟨S64, .i32⟩
  | 39 => ⟨S1x64, .i32⟩
  | 40 => ⟨S64x1, .i32⟩
  | 41 => ⟨S64x64, .i32⟩
  | 42 => ⟨S64x64, .i32⟩
  | 43 => ⟨S64x64, .i1⟩
  | 44 => ⟨S1x64, .i32⟩
  | 45 => ⟨S64x1, .i32⟩
  | 46 => ⟨S_, .i32⟩
  | 47 => ⟨S64x1, .i32⟩
  | 48 => ⟨S64x1, .i32⟩
  | 49 => ⟨S64x64, .i32⟩
  | 50 => ⟨S64x64, .i32⟩
  | 51 => ⟨S64x64, .i1⟩
  | 52 => ⟨S64x64, .i1⟩
  | 53 => ⟨S1x64, .i32⟩
  | 54 => ⟨S64x1, .i32⟩
  | 55 => ⟨S64x64, .i32⟩
  | 56 => ⟨S64x64, .i32⟩
  | 57 => ⟨S64x64, .i32⟩
  | 58 => ⟨S_, .i32⟩
  | 59 => ⟨S_, .i32⟩
  | 60 => ⟨S_, .i32⟩
  | 61 => ⟨S64x64, .i32⟩
  | 62 => ⟨S64x64, .i32⟩
  | 63 => ⟨S_, .i32⟩
  | 64 => ⟨S64x64, .i32⟩
  | 65 => ⟨S64x64, .i32⟩
  | 66 => ⟨S_, .i32⟩
  | 67 => ⟨S64x64, .i32⟩
  | 68 => ⟨S64x64, .i32⟩
  | 69 => ⟨S32, .i32⟩
  | 70 => ⟨S_, .i32⟩
  | 71 => ⟨S32, .i32⟩
  | 72 => ⟨S32, .i32⟩
  | 73 => ⟨S_, .i32⟩
  | 74 => ⟨S_, .i32⟩
  | 75 => ⟨S_, .i32⟩
  | 76 => ⟨S32, .i32⟩
  | 77 => ⟨S32, .i32⟩
  | 78 => ⟨S_, .i32⟩
  | 79 => ⟨S32, .i32⟩
  | 80 => ⟨S32, .i32⟩
  | 81 => ⟨S32x1, .i32⟩
  | 82 => ⟨S8, .i32⟩
  | 83 => ⟨S1x8, .i32⟩
  | 84 => ⟨S32x8, .i32⟩
  | 85 => ⟨S32x8, .i32⟩
  | 86 => ⟨S32x8, .i32⟩
  | 87 => ⟨S32x8x1, .i32⟩
  | 88 => ⟨S8x8x32x8x64x128, .f32⟩
  | 89 => ⟨S32x8x1, .i32⟩
  | 90 => ⟨S8x8x32x8x64x128, .f32⟩
  | 91 => ⟨S8x8x32x64x8x64, .f32⟩
  | 92 => ⟨S32x1, .i32⟩
  | 93 => ⟨S32x8, .i32⟩
  | 94 => ⟨S32x8, .i32⟩
  | 95 => ⟨S_, .i32⟩
  | 96 => ⟨S32x8, .i32⟩
  | 97 => ⟨S32x8, .i32⟩
  | 98 => ⟨S32x1x8x1, .i32⟩
  | 99 => ⟨S1x64x1x64, .i32⟩
  | 100 => ⟨S32x64x8x64, .i32⟩
  | 101 => ⟨S32x64x8x64, .i32⟩
  | 102 => ⟨S32x64x8x64x1, .i32⟩
  | 103 => ⟨S32x64x8x64x1, .i32⟩
  | 104 => ⟨S32x64x8x64x2, .i32⟩
  | 105 => ⟨S8x32x64x8x64, .f32⟩
  | 106 => ⟨S1x1x1x64x1x64, .i1⟩
  | 107 => ⟨S1x8x32x64x8x64, .f32⟩
  | 108 => ⟨S8x8x32x64x8x64, .f32⟩
  | 109 => ⟨S8x8x32x64x8x64, .f32⟩
  | 110 => ⟨S_, .f32⟩
  | 111 => ⟨S_, .f32⟩
  | 112 => ⟨S8x8x32x64x8x64, .i1⟩
  | 113 => ⟨S8x8x32x64x8x64, .f32⟩
  | 114 => ⟨S8x8x32x64x8x64, .f32⟩
  | 115 => ⟨S8x8x32x64x256, .f32⟩
  | 116 => ⟨S8x8x32x64x512, .f32⟩
  | 117 => ⟨S8x8x32x64x768, .f32⟩
  | 118 => ⟨S_, .f32⟩
  | 119 => ⟨S8x8x32x64, .f32⟩
  | 120 => ⟨S_, .f32⟩
  | 121 => ⟨S8x8x32x64, .f32⟩
  | 122 => ⟨S8x8x32x64, .f32⟩
  | 123 => ⟨S8x8x32x64x1, .f32⟩
  | 124 => ⟨S8x8x32x64x768, .f32⟩
  | 125 => ⟨S8x8x32x64x768, .f32⟩
  | 126 => ⟨S8x8x32x64x768, .f32⟩
  | 127 => ⟨S_, .f32⟩
  | _ => ⟨S16384x6144, .bf16⟩

abbrev hbmTy0_1 (i : Nat) : BufTy := match i % 128 with
  | 0 => ⟨S8x8x32x64, .f32⟩
  | 1 => ⟨S8x8x32x64x1, .f32⟩
  | 2 => ⟨S8x8x32x64x768, .f32⟩
  | 3 => ⟨S8x8x32x64x768, .f32⟩
  | 4 => ⟨S8x8x32x64x512, .f32⟩
  | 5 => ⟨S8x8x32x512x128, .f32⟩
  | 6 => ⟨S8x8x32x64x128, .f32⟩
  | 7 => ⟨S8x8x32x64x256, .f32⟩
  | 8 => ⟨S8x8x32x64x128, .f32⟩
  | 9 => ⟨S8x8x32x64x128, .f32⟩
  | 10 => ⟨S8x32x64x8x128, .f32⟩
  | 11 => ⟨S8x2048x1024, .f32⟩
  | 12 => ⟨S8x2048x8x128, .f32⟩
  | 13 => ⟨S8x128, .f32⟩
  | 14 => ⟨S8x2048x8x128, .f32⟩
  | 15 => ⟨S_, .f32⟩
  | 16 => ⟨S8x2048x8, .f32⟩
  | 17 => ⟨S8x2048x8x1, .f32⟩
  | 18 => ⟨S_, .f32⟩
  | 19 => ⟨S8x2048x8x1, .f32⟩
  | 20 => ⟨S8x2048x8x1, .f32⟩
  | 21 => ⟨S_, .f32⟩
  | 22 => ⟨S8x2048x8x1, .f32⟩
  | 23 => ⟨S8x2048x8x1, .f32⟩
  | 24 => ⟨S8x2048x8x1, .f32⟩
  | 25 => ⟨S8x2048x8x128, .f32⟩
  | 26 => ⟨S8x2048x8x128, .f32⟩
  | 27 => ⟨S1x1x8x128, .f32⟩
  | 28 => ⟨S8x2048x8x128, .f32⟩
  | 29 => ⟨S8x2048x8x128, .f32⟩
  | 30 => ⟨S16384x1024, .f32⟩
  | 31 => ⟨S16384x1024, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_v24 : Ref sig .tc := ⟨.hbm, 29, rfl⟩
abbrev main_v25 : Ref sig .tc := ⟨.hbm, 30, rfl⟩
abbrev main_c_0 : Ref sig .tc := ⟨.hbm, 31, rfl⟩
abbrev main_c_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_3 : Ref sig .tc := ⟨.hbm, 58, rfl⟩
abbrev main_c_4 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v45 : Ref sig .tc := ⟨.hbm, 65, rfl⟩
abbrev main_c_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_6 : Ref sig .tc := ⟨.hbm, 70, rfl⟩
abbrev main_v49 : Ref sig .tc := ⟨.hbm, 71, rfl⟩
abbrev main_v50 : Ref sig .tc := ⟨.hbm, 72, rfl⟩
abbrev main_c_7 : Ref sig .tc := ⟨.hbm, 73, rfl⟩
abbrev main_c_8 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_9 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_10 : Ref sig .tc := ⟨.hbm, 118, rfl⟩
abbrev main_v84 : Ref sig .tc := ⟨.hbm, 119, rfl⟩
abbrev main_cst_11 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_12 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_13 : Ref sig .tc := ⟨.hbm, 143, rfl⟩
abbrev main_v106 : Ref sig .tc := ⟨.hbm, 144, rfl⟩
abbrev main_v107 : Ref sig .tc := ⟨.hbm, 145, rfl⟩
abbrev main_cst_14 : Ref sig .tc := ⟨.hbm, 146, rfl⟩
abbrev main_v108 : Ref sig .tc := ⟨.hbm, 147, rfl⟩
abbrev main_v109 : Ref sig .tc := ⟨.hbm, 148, rfl⟩
abbrev main_cst_15 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩

abbrev nD : Nat := 1
abbrev τ : Topo := Topo.v7x

variable {F : FTy → Type} [FloatOps F]

def κ : String → Option EReal := fun
  | "mask" => some ⊥
  | _ => none
-- ==== Kernel2.lean ====
abbrev S8x2048x2048 : Shape := ⟨3, ![8, 2048, 2048]⟩
abbrev S16x12288 : Shape := ⟨2, ![16, 12288]⟩
abbrev S1x2048 : Shape := ⟨2, ![1, 2048]⟩
abbrev S1x2048x6144 : Shape := ⟨3, ![1, 2048, 6144]⟩
abbrev S1x128 : Shape := ⟨2, ![1, 128]⟩
abbrev S16384x2048 : Shape := ⟨2, ![16384, 2048]⟩
abbrev S16x1x12288 : Shape := ⟨3, ![16, 1, 12288]⟩
abbrev S2048x6144 : Shape := ⟨2, ![2048, 6144]⟩
abbrev S2048 : Shape := ⟨1, ![2048]⟩
abbrev S128 : Shape := ⟨1, ![128]⟩
abbrev S8x128 : Shape := ⟨2, ![8, 128]⟩
abbrev S1024 : Shape := ⟨1, ![1024]⟩
abbrev S_ : Shape := ⟨0, ![]⟩
abbrev S16384x6144 : Shape := ⟨2, ![16384, 6144]⟩
abbrev S256x2048 : Shape := ⟨2, ![256, 2048]⟩
abbrev S1x1x2048 : Shape := ⟨3, ![1, 1, 2048]⟩
abbrev S256x6144 : Shape := ⟨2, ![256, 6144]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S256x128 : Shape := ⟨2, ![256, 128]⟩

abbrev nBuf : Space → Nat
  | .hbm => 26
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S16x12288, .f32⟩
  | .hbm, ⟨2, _⟩ => ⟨S1x2048, .f32⟩
  | .hbm, ⟨3, _⟩ => ⟨S1x2048x6144, .f32⟩
  | .hbm, ⟨4, _⟩ => ⟨S1x128, .f32⟩
  | .hbm, ⟨5, _⟩ => ⟨S1x128, .f32⟩
  | .hbm, ⟨6, _⟩ => ⟨S16384x2048, .f32⟩
  | .hbm, ⟨7, _⟩ => ⟨S16x1x12288, .f32⟩
  | .hbm, ⟨8, _⟩ => ⟨S2048x6144, .f32⟩
  | .hbm, ⟨9, _⟩ => ⟨S2048x6144, .bf16⟩
  | .hbm, ⟨10, _⟩ => ⟨S2048, .f32⟩
  | .hbm, ⟨11, _⟩ => ⟨S1x2048, .f32⟩
  | .hbm, ⟨12, _⟩ => ⟨S128, .f32⟩
  | .hbm, ⟨13, _⟩ => ⟨S1x128, .f32⟩
  | .hbm, ⟨14, _⟩ => ⟨S8x128, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S128, .f32⟩
  | .hbm, ⟨20, _⟩ => ⟨S1x128, .f32⟩
  | .hbm, ⟨21, _⟩ => ⟨S8x128, .f32⟩
  | .hbm, ⟨22, _⟩ => ⟨S1024, .f32⟩
  | .hbm, ⟨23, _⟩ => ⟨S2048, .f32⟩
  | .hbm, ⟨24, _⟩ => ⟨S1x2048, .f32⟩
  | .hbm, ⟨25, _⟩ => ⟨S16384x6144, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x6144, .bf16⟩
  | .local _ .vmem, ⟨8, _⟩ => ⟨S1x2048, .f32⟩
  | .local _ .vmem, ⟨9, _⟩ => ⟨S256x6144, .bf16⟩
  | .local _ .vmem, ⟨10, _⟩ => ⟨S256x6144, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x2048x2048 : Shape := ⟨3, ![8, 2048, 2048]⟩
abbrev S16x12288 : Shape := ⟨2, ![16, 12288]⟩
abbrev S1x2048 : Shape := ⟨2, ![1, 2048]⟩
abbrev S1x2048x6144 : Shape := ⟨3, ![1, 2048, 6144]⟩
abbrev S1x128 : Shape := ⟨2, ![1, 128]⟩
abbrev S8x12288 : Shape := ⟨2, ![8, 12288]⟩
abbrev S8x1x12288 : Shape := ⟨3, ![8, 1, 12288]⟩
abbrev S8x1x2048 : Shape := ⟨3, ![8, 1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x6144 : Shape := ⟨2, ![2048, 6144]⟩
abbrev S8x2048x6144 : Shape := ⟨3, ![8, 2048, 6144]⟩
abbrev S8x2048x1024 : Shape := ⟨3, ![8, 2048, 1024]⟩
abbrev S8x2048x4096 : Shape := ⟨3, ![8, 2048, 4096]⟩
abbrev S8x2048x8x128 : Shape := ⟨4, ![8, 2048, 8, 128]⟩
abbrev S128 : Shape := ⟨1, ![128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S16384x6144 : Shape := ⟨2, ![16384, 6144]⟩

abbrev nBuf : Space → Nat
  | .hbm => 83
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16x12288, .f32⟩
  | .hbm, ⟨2, _⟩ => ⟨S1x2048, .f32⟩
  | .hbm, ⟨3, _⟩ => ⟨S1x2048x6144, .f32⟩
  | .hbm, ⟨4, _⟩ => ⟨S1x128, .f32⟩
  | .hbm, ⟨5, _⟩ => ⟨S1x128, .f32⟩
  | .hbm, ⟨6, _⟩ => ⟨S8x12288, .f32⟩
  | .hbm, ⟨7, _⟩ => ⟨S8x1x12288, .f32⟩
  | .hbm, ⟨8, _⟩ => ⟨S8x1x2048, .f32⟩
  | .hbm, ⟨9, _⟩ => ⟨S8x1x2048, .f32⟩
  | .hbm, ⟨10, _⟩ => ⟨S2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S1x1x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S2048x6144, .f32⟩
  | .hbm, ⟨35, _⟩ => ⟨S8x2048x6144, .f32⟩
  | .hbm, ⟨36, _⟩ => ⟨S8x2048x1024, .f32⟩
  | .hbm, ⟨37, _⟩ => ⟨S8x2048x1024, .f32⟩
  | .hbm, ⟨38, _⟩ => ⟨S8x2048x4096, .f32⟩
  | .hbm, ⟨39, _⟩ => ⟨S8x2048x8x128, .f32⟩
  | .hbm, ⟨40, _⟩ => ⟨S128, .f32⟩
  | .hbm, ⟨41, _⟩ => ⟨S8x2048x8x128, .f32⟩
  | .hbm, ⟨42, _⟩ => ⟨S_, .f32⟩
  | .hbm, ⟨43, _⟩ => ⟨S8x2048x8, .f32⟩
  | .hbm, ⟨44, _⟩ => ⟨S8x2048x8x1, .f32⟩
  | .hbm, ⟨45, _⟩ => ⟨S_, .f32⟩
  | .hbm, ⟨46, _⟩ => ⟨S8x2048x8x1, .f32⟩
  | .hbm, ⟨47, _⟩ => ⟨S8x2048x8x1, .f32⟩
  | .hbm, ⟨48, _⟩ => ⟨S_, .f32⟩
  | .hbm, ⟨49, _⟩ => ⟨S8x2048x8x1, .f32⟩
  | .hbm, ⟨50, _⟩ => ⟨S8x2048x8x1, .f32⟩
  | .hbm, ⟨51, _⟩ => ⟨S8x2048x8x1, .f32⟩
  | .hbm, ⟨52, _⟩ => ⟨S8x2048x8x128, .f32⟩
  | .hbm, ⟨53, _⟩ => ⟨S8x2048x8x128, .f32⟩
  | .hbm, ⟨54, _⟩ => ⟨S1x1x1x128, .f32⟩
  | .hbm, ⟨55, _⟩ => ⟨S8x2048x8x128, .f32⟩
  | .hbm, ⟨56, _⟩ => ⟨S8x2048x8x128, .f32⟩
  | .hbm, ⟨57, _⟩ => ⟨S_, .f32⟩
  | .hbm, ⟨58, _⟩ => ⟨S8x2048x8x128, .f32⟩
  | .hbm, ⟨59, _⟩ => ⟨S8x2048x8x128, .f32⟩
  | .hbm, ⟨60, _⟩ => ⟨S8x2048x8x128, .f32⟩
  | .hbm, ⟨61, _⟩ => ⟨S128, .f32⟩
  | .hbm, ⟨62, _⟩ => ⟨S8x2048x8x128, .f32⟩
  | .hbm, ⟨63, _⟩ => ⟨S_, .f32⟩
  | .hbm, ⟨64, _⟩ => ⟨S8x2048x8, .f32⟩
  | .hbm, ⟨65, _⟩ => ⟨S8x2048x8x1, .f32⟩
  | .hbm, ⟨66, _⟩ => ⟨S_, .f32⟩
  | .hbm, ⟨67, _⟩ => ⟨S8x2048x8x1, .f32⟩
  | .hbm, ⟨68, _⟩ => ⟨S8x2048x8x1, .f32⟩
  | .hbm, ⟨69, _⟩ => ⟨S_, .f32⟩
  | .hbm, ⟨70, _⟩ => ⟨S8x2048x8x1, .f32⟩
  | .hbm, ⟨71, _⟩ => ⟨S8x2048x8x1, .f32⟩
  | .hbm, ⟨72, _⟩ => ⟨S8x2048x8x1, .f32⟩
  | .hbm, ⟨73, _⟩ => ⟨S8x2048x8x128, .f32⟩
  | .hbm, ⟨74, _⟩ => ⟨S8x2048x8x128, .f32⟩
  | .hbm, ⟨75, _⟩ => ⟨S1x1x1x128, .f32⟩
  | .hbm, ⟨76, _⟩ => ⟨S8x2048x8x128, .f32⟩
  | .hbm, ⟨77, _⟩ => ⟨S8x2048x8x128, .f32⟩
  | .hbm, ⟨78, _⟩ => ⟨S8x2048x1024, .f32⟩
  | .hbm, ⟨79, _⟩ => ⟨S8x2048x1024, .f32⟩
  | .hbm, ⟨80, _⟩ => ⟨S8x2048x6144, .f32⟩
  | .hbm, ⟨81, _⟩ => ⟨S16384x6144, .f32⟩
  | .hbm, ⟨82, _⟩ => ⟨S16384x6144, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Kernel3.lean ====
abbrev S16384x1024 : Shape := ⟨2, ![16384, 1024]⟩
abbrev S16384x6144 : Shape := ⟨2, ![16384, 6144]⟩
abbrev S8x2048x2048 : Shape := ⟨3, ![8, 2048, 2048]⟩
abbrev S16x12288 : Shape := ⟨2, ![16, 12288]⟩
abbrev S1x3x1024 : Shape := ⟨3, ![1, 3, 1024]⟩
abbrev S1x8x128 : Shape := ⟨3, ![1, 8, 128]⟩
abbrev S1x2048x2048 : Shape := ⟨3, ![1, 2048, 2048]⟩
abbrev S1x2048 : Shape := ⟨2, ![1, 2048]⟩
abbrev S16384x2048 : Shape := ⟨2, ![16384, 2048]⟩
abbrev S16x1x12288 : Shape := ⟨3, ![16, 1, 12288]⟩
abbrev S3x1024 : Shape := ⟨2, ![3, 1024]⟩
abbrev S8x128 : Shape := ⟨2, ![8, 128]⟩
abbrev S1x1024 : Shape := ⟨2, ![1, 1024]⟩
abbrev S2048x2048 : Shape := ⟨2, ![2048, 2048]⟩
abbrev S2048 : Shape := ⟨1, ![2048]⟩
abbrev S256x1024 : Shape := ⟨2, ![256, 1024]⟩
abbrev S16x1024 : Shape := ⟨2, ![16, 1024]⟩
abbrev S256x2048 : Shape := ⟨2, ![256, 2048]⟩
abbrev S1x1x2048 : Shape := ⟨3, ![1, 1, 2048]⟩
abbrev S256x1 : Shape := ⟨2, ![256, 1]⟩
abbrev S256x128 : Shape := ⟨2, ![256, 128]⟩
abbrev S256 : Shape := ⟨1, ![256]⟩
abbrev S1x128 : Shape := ⟨2, ![1, 128]⟩
abbrev S1024x2048 : Shape := ⟨2, ![1024, 2048]⟩

abbrev nBuf : Space → Nat
  | .hbm => 19
  | .vmem => 32
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S8x2048x2048, .f32⟩
  | .hbm, ⟨3, _⟩ => ⟨S16x12288, .f32⟩
  | .hbm, ⟨4, _⟩ => ⟨S1x3x1024, .f32⟩
  | .hbm, ⟨5, _⟩ => ⟨S1x8x128, .f32⟩
  | .hbm, ⟨6, _⟩ => ⟨S1x2048x2048, .f32⟩
  | .hbm, ⟨7, _⟩ => ⟨S1x2048, .f32⟩
  | .hbm, ⟨8, _⟩ => ⟨S16384x2048, .f32⟩
  | .hbm, ⟨9, _⟩ => ⟨S16x1x12288, .f32⟩
  | .hbm, ⟨10, _⟩ => ⟨S3x1024, .f32⟩
  | .hbm, ⟨11, _⟩ => ⟨S8x128, .f32⟩
  | .hbm, ⟨12, _⟩ => ⟨S1x1024, .f32⟩
  | .hbm, ⟨13, _⟩ => ⟨S2048x2048, .f32⟩
  | .hbm, ⟨14, _⟩ => ⟨S2048x2048, .bf16⟩
  | .hbm, ⟨15, _⟩ => ⟨S2048, .f32⟩
  | .hbm, ⟨16, _⟩ => ⟨S1x2048, .f32⟩
  | .hbm, ⟨17, _⟩ => ⟨S16384x2048, .f32⟩
  | .hbm, ⟨18, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S256x2048, .f32⟩
  | .local _ .vmem, ⟨17, _⟩ => ⟨S256x2048, .f32⟩
  | .local _ .vmem, ⟨18, _⟩ => ⟨S3x1024, .f32⟩
  | .local _ .vmem, ⟨19, _⟩ => ⟨S1x1024, .f32⟩
  | .local _ .vmem, ⟨20, _⟩ => ⟨S2048x2048, .bf16⟩
  | .local _ .vmem, ⟨21, _⟩ => ⟨S1x1x2048, .f32⟩
  | .local _ .vmem, ⟨22, _⟩ => ⟨S1x1x2048, .f32⟩
  | .local _ .vmem, ⟨23, _⟩ => ⟨S1x2048, .f32⟩
  | .local _ .vmem, ⟨24, _⟩ => ⟨S1x1x2048, .f32⟩
  | .local _ .vmem, ⟨25, _⟩ => ⟨S1x1x2048, .f32⟩
  | .local _ .vmem, ⟨26, _⟩ => ⟨S1x1x2048, .f32⟩
  | .local _ .vmem, ⟨27, _⟩ => ⟨S1x1x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .bf16⟩
  | .local _ .vmem, ⟨31, _⟩ => ⟨S256x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c4_i32 : BitVec 32 := 4#32
  let c0_i32 : BitVec 32 := 0#32
  ![v2.toNat, c4_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c5_i32 : BitVec 32 := 5#32
  let c0_i32 : BitVec 32 := 0#32
  ![v2.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_15 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S16384x1024 : Shape := ⟨2, ![16384, 1024]⟩
abbrev S16384x6144 : Shape := ⟨2, ![16384, 6144]⟩
abbrev S8x2048x2048 : Shape := ⟨3, ![8, 2048, 2048]⟩
abbrev S16x12288 : Shape := ⟨2, ![16, 12288]⟩
abbrev S1x3x1024 : Shape := ⟨3, ![1, 3, 1024]⟩
abbrev S1x8x128 : Shape := ⟨3, ![1, 8, 128]⟩
abbrev S1x2048x2048 : Shape := ⟨3, ![1, 2048, 2048]⟩
abbrev S1x2048 : Shape := ⟨2, ![1, 2048]⟩
abbrev S8x12288 : Shape := ⟨2, ![8, 12288]⟩
abbrev S8x1x12288 : Shape := ⟨3, ![8, 1, 12288]⟩
abbrev S8x1x2048 : Shape := ⟨3, ![8, 1, 2048]⟩
abbrev S8x2048x6144 : Shape := ⟨3, ![8, 2048, 6144]⟩
abbrev S8x2048x1024 : Shape := ⟨3, ![8, 2048, 1024]⟩
abbrev S3x1024 : Shape := ⟨2, ![3, 1024]⟩
abbrev S_ : Shape := ⟨0, ![]⟩
abbrev S8x2050x1024 : Shape := ⟨3, ![8, 2050, 1024]⟩
abbrev S1x1024 : Shape := ⟨2, ![1, 1024]⟩
abbrev S1024 : Shape := ⟨1, ![1024]⟩
abbrev S1x1x1024 : Shape := ⟨3, ![1, 1, 1024]⟩
abbrev S8x2048x8x128 : Shape := ⟨4, ![8, 2048, 8, 128]⟩
abbrev S8x128 : Shape := ⟨2, ![8, 128]⟩
abbrev S8x2048x8 : Shape := ⟨3, ![8, 2048, 8]⟩
abbrev S8x2048x8x1 : Shape := ⟨4, ![8, 2048, 8, 1]⟩
abbrev S1x1x8x128 : Shape := ⟨4, ![1, 1, 8, 128]⟩
abbrev S2048x2048 : Shape := ⟨2, ![2048, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S8x2048x2048, .f32⟩
  | .hbm, ⟨3, _⟩ => ⟨S16x12288, .f32⟩
  | .hbm, ⟨4, _⟩ => ⟨S1x3x1024, .f32⟩
  | .hbm, ⟨5, _⟩ => ⟨S1x8x128, .f32⟩
  | .hbm, ⟨6, _⟩ => ⟨S1x2048x2048, .f32⟩
  | .hbm, ⟨7, _⟩ => ⟨S1x2048, .f32⟩
  | .hbm, ⟨8, _⟩ => ⟨S8x12288, .f32⟩
  | .hbm, ⟨9, _⟩ => ⟨S8x1x12288, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S16384x6144, .f32⟩
  | .hbm, ⟨14, _⟩ => ⟨S8x2048x6144, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S3x1024, .f32⟩
  | .hbm, ⟨19, _⟩ => ⟨S8x2048x1024, .f32⟩
  | .hbm, ⟨20, _⟩ => ⟨S_, .i32⟩
  | .hbm, ⟨21, _⟩ => ⟨S_, .f32⟩
  | .hbm, ⟨22, _⟩ => ⟨S8x2050x1024, .f32⟩
  | .hbm, ⟨23, _⟩ => ⟨S1x1024, .f32⟩
  | .hbm, ⟨24, _⟩ => ⟨S1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S1x1024, .f32⟩
  | .hbm, ⟨30, _⟩ => ⟨S1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S1x1024, .f32⟩
  | .hbm, ⟨37, _⟩ => ⟨S1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x8x128, .f32⟩
  | .hbm, ⟨45, _⟩ => ⟨S8x128, .f32⟩
  | .hbm, ⟨46, _⟩ => ⟨S8x2048x8x128, .f32⟩
  | .hbm, ⟨47, _⟩ => ⟨S_, .f32⟩
  | .hbm, ⟨48, _⟩ => ⟨S8x2048x8, .f32⟩
  | .hbm, ⟨49, _⟩ => ⟨S8x2048x8x1, .f32⟩
  | .hbm, ⟨50, _⟩ => ⟨S_, .f32⟩
  | .hbm, ⟨51, _⟩ => ⟨S8x2048x8x1, .f32⟩
  | .hbm, ⟨52, _⟩ => ⟨S8x2048x8x1, .f32⟩
  | .hbm, ⟨53, _⟩ => ⟨S_, .f32⟩
  | .hbm, ⟨54, _⟩ => ⟨S8x2048x8x1, .f32⟩
  | .hbm, ⟨55, _⟩ => ⟨S8x2048x8x1, .f32⟩
  | .hbm, ⟨56, _⟩ => ⟨S8x2048x8x1, .f32⟩
  | .hbm, ⟨57, _⟩ => ⟨S8x2048x8x128, .f32⟩
  | .hbm, ⟨58, _⟩ => ⟨S8x2048x8x128, .f32⟩
  | .hbm, ⟨59, _⟩ => ⟨S1x1x8x128, .f32⟩
  | .hbm, ⟨60, _⟩ => ⟨S8x2048x8x128, .f32⟩
  | .hbm, ⟨61, _⟩ => ⟨S8x2048x8x128, .f32⟩
  | .hbm, ⟨62, _⟩ => ⟨S8x2048x1024, .f32⟩
  | .hbm, ⟨63, _⟩ => ⟨S16384x1024, .f32⟩
  | .hbm, ⟨64, _⟩ => ⟨S8x2048x1024, .f32⟩
  | .hbm, ⟨65, _⟩ => ⟨S8x2048x2048, .f32⟩
  | .hbm, ⟨66, _⟩ => ⟨S2048x2048, .f32⟩
  | .hbm, ⟨67, _⟩ => ⟨S8x2048x2048, .f32⟩
  | .hbm, ⟨68, _⟩ => ⟨S8x2048x2048, .f32⟩
  | .hbm, ⟨69, _⟩ => ⟨S8x2048x2048, .f32⟩
  | .hbm, ⟨70, _⟩ => ⟨S8x2048x2048, .f32⟩
  | .hbm, ⟨71, _⟩ => ⟨S2048, .f32⟩
  | .hbm, ⟨72, _⟩ => ⟨S8x2048x2048, .f32⟩
  | .hbm, ⟨73, _⟩ => ⟨S_, .f32⟩
  | .hbm, ⟨74, _⟩ => ⟨S8x2048, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S_, .f32⟩
  | .hbm, ⟨80, _⟩ => ⟨S8x2048x1, .f32⟩
  | .hbm, ⟨81, _⟩ => ⟨S8x2048x1, .f32⟩
  | .hbm, ⟨82, _⟩ => ⟨S8x2048x1, .f32⟩
  | .hbm, ⟨83, _⟩ => ⟨S8x2048x2048, .f32⟩
  | .hbm, ⟨84, _⟩ => ⟨S8x2048x2048, .f32⟩
  | .hbm, ⟨85, _⟩ => ⟨S1x1x2048, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x1x2048, .f32⟩
  | .hbm, ⟨90, _⟩ => ⟨S8x1x2048, .f32⟩
  | .hbm, ⟨91, _⟩ => ⟨S8x2048x2048, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S16384x2048, .f32⟩
  | .hbm, ⟨96, _⟩ => ⟨S16384x2048, .f32⟩
  | .hbm, ⟨97, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev main_v38 : Ref sig .tc := ⟨.hbm, 49, rfl⟩
abbrev main_cst_0 : Ref sig .tc := ⟨.hbm, 50, rfl⟩
abbrev main_v39 : Ref sig .tc := ⟨.hbm, 51, rfl⟩
abbrev main_v40 : Ref sig .tc := ⟨.hbm, 52, rfl⟩
abbrev main_cst_1 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_2 : Ref sig .tc := ⟨.hbm, 73, rfl⟩
abbrev main_v60 : Ref sig .tc := ⟨.hbm, 74, rfl⟩
abbrev main_v61 : Ref sig .tc := ⟨.hbm, 75, rfl⟩
abbrev main_cst_3 : Ref sig .tc := ⟨.hbm, 76, rfl⟩
abbrev main_v62 : Ref sig .tc := ⟨.hbm, 77, rfl⟩
abbrev main_v63 : Ref sig .tc := ⟨.hbm, 78, rfl⟩
abbrev main_cst_4 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_5 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩

abbrev nD : Nat := 1
abbrev τ : Topo := Topo.v7x

variable {F : FTy → Type} [FloatOps F]
-- ==== Kernel4.lean ====
abbrev S8x256x2048 : Shape := ⟨3, ![8, 256, 2048]⟩
abbrev S16x12288 : Shape := ⟨2, ![16, 12288]⟩
abbrev S1x2048 : Shape := ⟨2, ![1, 2048]⟩
abbrev S1x2048x6144 : Shape := ⟨3, ![1, 2048, 6144]⟩
abbrev S1x128 : Shape := ⟨2, ![1, 128]⟩
abbrev S2048x2048 : Shape := ⟨2, ![2048, 2048]⟩
abbrev S16x1x12288 : Shape := ⟨3, ![16, 1, 12288]⟩
abbrev S2048x6144 : Shape := ⟨2, ![2048, 6144]⟩
abbrev S2048 : Shape := ⟨1, ![2048]⟩
abbrev S128 : Shape := ⟨1, ![128]⟩
abbrev S8x128 : Shape := ⟨2, ![8, 128]⟩
abbrev S1024 : Shape := ⟨1, ![1024]⟩
abbrev S1x1024 : Shape := ⟨2, ![1, 1024]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S256x128 : Shape := ⟨2, ![256, 128]⟩

abbrev nBuf : Space → Nat
  | .hbm => 18
  | .vmem => 9
  | .smem => 0
  | _ => 0

abbrev bufTy : (tb : Table) → Fin (tcTables nBuf tb) → BufTy
  | .hbm, ⟨0, _⟩ => ⟨S8x256x2048, .f32⟩
  | .hbm, ⟨1, _⟩ => ⟨S16x12288, .f32⟩
  | .hbm, ⟨2, _⟩ => ⟨S1x2048, .f32⟩
  | .hbm, ⟨3, _⟩ => ⟨S1x2048x6144, .f32⟩
  | .hbm, ⟨4, _⟩ => ⟨S1x128, .f32⟩
  | .hbm, ⟨5, _⟩ => ⟨S2048x2048, .f32⟩
  | .hbm, ⟨6, _⟩ => ⟨S16x1x12288, .f32⟩
  | .hbm, ⟨7, _⟩ => ⟨S2048x6144, .f32⟩
  | .hbm, ⟨8, _⟩ => ⟨S2048x6144, .bf16⟩
  | .hbm, ⟨9, _⟩ => ⟨S2048, .f32⟩
  | .hbm, ⟨10, _⟩ => ⟨S1x2048, .f32⟩
  | .hbm, ⟨11, _⟩ => ⟨S128, .f32⟩
  | .hbm, ⟨12, _⟩ => ⟨S1x128, .f32⟩
  | .hbm, ⟨13, _⟩ => ⟨S8x128, .f32⟩
  | .hbm, ⟨14, _⟩ => ⟨S1024, .f32⟩
  | .hbm, ⟨15, _⟩ => ⟨S1x1024, .f32⟩
  | .hbm, ⟨16, _⟩ => ⟨S2048x2048, .bf16⟩
  | .hbm, ⟨17, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048, .f32⟩
  | .local _ .vmem, ⟨5, _⟩ => ⟨S2048x2048, .bf16⟩
  | .local _ .vmem, ⟨6, _⟩ => ⟨S1x1024, .f32⟩
  | .local _ .vmem, ⟨7, _⟩ => ⟨S256x2048, .bf16⟩
  | .local _ .vmem, ⟨8, _⟩ => ⟨S256x2048, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 3 → Nat :=
  let arg0 : BitVec 32 := BitVec.ofNat 32 (i 0).val
  let c8_i32 : BitVec 32 := 8#32
  let c0_i32 : BitVec 32 := 0#32
  let c1_i32 : BitVec 32 := 1#32
  let c0_i32_0 : BitVec 32 := 0#32
  ![c8_i32.toNat, c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8x256x2048 : Shape := ⟨3, ![8, 256, 2048]⟩
abbrev S16x12288 : Shape := ⟨2, ![16, 12288]⟩
abbrev S1x2048 : Shape := ⟨2, ![1, 2048]⟩
abbrev S1x2048x6144 : Shape := ⟨3, ![1, 2048, 6144]⟩
abbrev S1x128 : Shape := ⟨2, ![1, 128]⟩
abbrev S1x12288 : Shape := ⟨2, ![1, 12288]⟩
abbrev S12288 : Shape := ⟨1, ![12288]⟩
abbrev S1x1x12288 : Shape := ⟨3, ![1, 1, 12288]⟩
abbrev S1x1x2048 : Shape := ⟨3, ![1, 1, 2048]⟩
abbrev S2048 : Shape := ⟨1, ![2048]⟩
abbrev S_ : Shape := ⟨0, ![]⟩
abbrev S8x256 : Shape := ⟨2, ![8, 256]⟩
abbrev S8x256x1 : Shape := ⟨3, ![8, 256, 1]⟩
abbrev S2048x6144 : Shape := ⟨2, ![2048, 6144]⟩
abbrev S2048x2048 : Shape := ⟨2, ![2048, 2048]⟩
abbrev S8x256x1024 : Shape := ⟨3, ![8, 256, 1024]⟩
abbrev S8x256x8x128 : Shape := ⟨4, ![8, 256, 8, 128]⟩
abbrev S128 : Shape := ⟨1, ![128]⟩
abbrev S8x256x8 : Shape := ⟨3, ![8, 256, 8]⟩
abbrev S8x256x8x1 : Shape := ⟨4, ![8, 256, 8, 1]⟩
abbrev S1x1x1x128 : Shape := ⟨4, ![1, 1, 1, 128]⟩

abbrev nBuf : Space → Nat
  | .hbm => 61
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S16x12288, .f32⟩
  | .hbm, ⟨2, _⟩ => ⟨S1x2048, .f32⟩
  | .hbm, ⟨3, _⟩ => ⟨S1x2048x6144, .f32⟩
  | .hbm, ⟨4, _⟩ => ⟨S1x128, .f32⟩
  | .hbm, ⟨5, _⟩ => ⟨S1x12288, .f32⟩
  | .hbm, ⟨6, _⟩ => ⟨S12288, .f32⟩
  | .hbm, ⟨7, _⟩ => ⟨S1x1x12288, .f32⟩
  | .hbm, ⟨8, _⟩ => ⟨S1x1x2048, .f32⟩
  | .hbm, ⟨9, _⟩ => ⟨S1x1x2048, .f32⟩
  | .hbm, ⟨10, _⟩ => ⟨S2048, .f32⟩
  | .hbm, ⟨11, _⟩ => ⟨S8x256x2048, .f32⟩
  | .hbm, ⟨12, _⟩ => ⟨S_, .f32⟩
  | .hbm, ⟨13, _⟩ => ⟨S8x256, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S_, .f32⟩
  | .hbm, ⟨19, _⟩ => ⟨S8x256x1, .f32⟩
  | .hbm, ⟨20, _⟩ => ⟨S8x256x1, .f32⟩
  | .hbm, ⟨21, _⟩ => ⟨S8x256x1, .f32⟩
  | .hbm, ⟨22, _⟩ => ⟨S8x256x2048, .f32⟩
  | .hbm, ⟨23, _⟩ => ⟨S8x256x2048, .f32⟩
  | .hbm, ⟨24, _⟩ => ⟨S1x1x2048, .f32⟩
  | .hbm, ⟨25, _⟩ => ⟨S8x256x2048, .f32⟩
  | .hbm, ⟨26, _⟩ => ⟨S8x256x2048, .f32⟩
  | .hbm, ⟨27, _⟩ => ⟨S_, .f32⟩
  | .hbm, ⟨28, _⟩ => ⟨S1x1x2048, .f32⟩
  | .hbm, ⟨29, _⟩ => ⟨S1x1x2048, .f32⟩
  | .hbm, ⟨30, _⟩ => ⟨S8x256x2048, .f32⟩
  | .hbm, ⟨31, _⟩ => ⟨S8x256x2048, .f32⟩
  | .hbm, ⟨32, _⟩ => ⟨S8x256x2048, .f32⟩
  | .hbm, ⟨33, _⟩ => ⟨S8x256x2048, .f32⟩
  | .hbm, ⟨34, _⟩ => ⟨S2048x6144, .f32⟩
  | .hbm, ⟨35, _⟩ => ⟨S2048x2048, .f32⟩
  | .hbm, ⟨36, _⟩ => ⟨S8x256x2048, .f32⟩
  | .hbm, ⟨37, _⟩ => ⟨S8x256x1024, .f32⟩
  | .hbm, ⟨38, _⟩ => ⟨S8x256x1024, .f32⟩
  | .hbm, ⟨39, _⟩ => ⟨S8x256x8x128, .f32⟩
  | .hbm, ⟨40, _⟩ => ⟨S128, .f32⟩
  | .hbm, ⟨41, _⟩ => ⟨S8x256x8x128, .f32⟩
  | .hbm, ⟨42, _⟩ => ⟨S_, .f32⟩
  | .hbm, ⟨43, _⟩ => ⟨S8x256x8, .f32⟩
  | .hbm, ⟨44, _⟩ => ⟨S8x256x8x1, .f32⟩
  | .hbm, ⟨45, _⟩ => ⟨S_, .f32⟩
  | .hbm, ⟨46, _⟩ => ⟨S8x256x8x1, .f32⟩
  | .hbm, ⟨47, _⟩ => ⟨S8x256x8x1, .f32⟩
  | .hbm, ⟨48, _⟩ => ⟨S_, .f32⟩
  | .hbm, ⟨49, _⟩ => ⟨S8x256x8x1, .f32⟩
  | .hbm, ⟨50, _⟩ => ⟨S8x256x8x1, .f32⟩
  | .hbm, ⟨51, _⟩ => ⟨S8x256x8x1, .f32⟩
  | .hbm, ⟨52, _⟩ => ⟨S8x256x8x128, .f32⟩
  | .hbm, ⟨53, _⟩ => ⟨S8x256x8x128, .f32⟩
  | .hbm, ⟨54, _⟩ => ⟨S1x1x1x128, .f32⟩
  | .hbm, ⟨55, _⟩ => ⟨S8x256x8x128, .f32⟩
  | .hbm, ⟨56, _⟩ => ⟨S8x256x8x128, .f32⟩
  | .hbm, ⟨57, _⟩ => ⟨S8x256x1024, .f32⟩
  | .hbm, ⟨58, _⟩ => ⟨S8x256x2048, .f32⟩
  | .hbm, ⟨59, _⟩ => ⟨S2048x2048, .f32⟩
  | .hbm, ⟨60, _⟩ => ⟨S2048x2048, .bf16⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Kernel5.lean ====
abbrev S16x2048 : Shape := ⟨2, ![16, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S16x12288 : Shape := ⟨2, ![16, 12288]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S16x12288, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16x2048 : Shape := ⟨2, ![16, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S16x12288 : Shape := ⟨2, ![16, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048x12288, .f32⟩
  | .hbm, ⟨2, _⟩ => ⟨S1x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S2048x12288, .f32⟩
  | .hbm, ⟨13, _⟩ => ⟨S16x12288, .f32⟩
  | .hbm, ⟨14, _⟩ => ⟨S12288, .f32⟩
  | .hbm, ⟨15, _⟩ => ⟨S1x12288, .f32⟩
  | .hbm, ⟨16, _⟩ => ⟨S16x12288, .f32⟩
  | .hbm, ⟨17, _⟩ => ⟨S16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.InProjSpec.lean ====
module

public import Idealize.ShloMosaic.Lib.Pointwise

@[expose] public section

set_option maxRecDepth 16384

noncomputable section

namespace Cert.Layer

open Idealize.ShloMosaic

/-- The reciprocal root of the mean square of `n` numbers, `d` the literal `n` and the usual small number added. -/
def rstd {n : ℕ} (d : BitVec 32) (f : Fin n → EReal) : EReal :=
  Ideal.rsqrt (Ideal.div (∑ i, f i * f i) (Ideal.ofBits .f32 d) + Ideal.ofBits .f32 0x358637BD#32)

/-- One entry of a head's 128 numbers divided by the root of their mean square. -/
def rms128 (f : Fin 128 → EReal) (l : Fin 128) : EReal := f l * rstd 0x43000000#32 f

/-- Entry `k` of row `R` of the modulated normalised input. -/
def hAt (X : FVec Ideal ⟨3, ![8, 2048, 2048]⟩ .f32) (M : FVec Ideal ⟨2, ![16, 12288]⟩ .f32)
    (G : FVec Ideal ⟨2, ![1, 2048]⟩ .f32) (R : Fin 16384) (k : Fin 2048) : EReal :=
  X (ix3 ⟨R / 2048, by omega⟩ ⟨R % 2048, by omega⟩ k)
      * rstd 0x45000000#32 (fun i : Fin 2048 => X (ix3 ⟨R / 2048, by omega⟩ ⟨R % 2048, by omega⟩ i))
      * G (ix2 0 k) * (1 + M (ix2 ⟨R / 2048, by omega⟩ ⟨2048 + k, by omega⟩))
    + M (ix2 ⟨R / 2048, by omega⟩ ⟨k, by omega⟩)

/-- Column `c` of row `R` of the product with the weights (zero past the last column). -/
def projAt (X : FVec Ideal ⟨3, ![8, 2048, 2048]⟩ .f32) (M : FVec Ideal ⟨2, ![16, 12288]⟩ .f32)
    (G : FVec Ideal ⟨2, ![1, 2048]⟩ .f32) (W : FVec Ideal ⟨3, ![1, 2048, 6144]⟩ .f32) (R : Fin 16384) (c : ℕ) : EReal :=
  ∑ k : Fin 2048, hAt X M G R k * (if h : c < 6144 then W (ix3 0 k ⟨c, h⟩) else 0)

/-- The combined input projection: queries normalised and scaled, keys normalised, the rest as it is. -/
def inProjAt (X : FVec Ideal ⟨3, ![8, 2048, 2048]⟩ .f32) (M : FVec Ideal ⟨2, ![16, 12288]⟩ .f32)
    (G : FVec Ideal ⟨2, ![1, 2048]⟩ .f32) (W : FVec Ideal ⟨3, ![1, 2048, 6144]⟩ .f32)
    (Q K : FVec Ideal ⟨2, ![1, 128]⟩ .f32) (R : Fin 16384) (c : ℕ) : EReal :=
  if c < 1024 then
    rms128 (fun l => projAt X M G W R (c / 128 * 128 + l)) ⟨c % 128, by omega⟩ * Q (ix2 0 ⟨c % 128, by omega⟩)
      * Ideal.ofBits .f32 0x3DB504F3#32
  else if c < 2048 then
    rms128 (fun l => projAt X M G W R (c / 128 * 128 + l)) ⟨c % 128, by omega⟩ * K (ix2 0 ⟨c % 128, by omega⟩)
  else projAt X M G W R c

end Cert.Layer

end
-- ==== Proof.InProjBlock.lean ====
module

public import proofs.«01_k».proof.Proof.Gen.Kernel2Ideal.Value
public import Idealize.ShloMosaic.Lib.Pipeline.ValueKit
public import Idealize.ShloMosaic.Lib.Pointwise
public import proofs.«01_k».proof.Proof.InProjSpec

@[expose] public section

set_option maxRecDepth 16384

noncomputable section

namespace Cert.Kernel2Ideal.InProj

open Cert.Kernel2Ideal Cert.Kernel2Ideal.Gen Idealize.ShloMosaic Idealize.ShloMosaic.TcCoe Idealize.SL.Sem Cert.Layer

/-- Column `c` of row `r` of a block of normalised rows times the weights (zero past the last column). -/
def accAt (hb : FVec Ideal S256x2048 .bf16) (w : FVec Ideal S2048x6144 .bf16) (r : Fin 256) (c : ℕ) : EReal :=
  ∑ k : Fin 2048, hb (ix2 r k) * (if h : c < 6144 then w (ix2 k ⟨c, h⟩) else 0)

/-- The block of the result: the first 2048 columns normalised head by head and scaled, the others the product. -/
def blockAt (hb : FVec Ideal S256x2048 .bf16) (w : FVec Ideal S2048x6144 .bf16) (g : FVec Ideal S1x2048 .f32)
    (r : Fin 256) (c : ℕ) : EReal :=
  if c < 2048 then
    rms128 (fun l => accAt hb w r (c / 128 * 128 + l)) ⟨c % 128, by omega⟩ * g (ix2 0 ⟨c % 2048, by omega⟩)
  else accAt hb w r c

/-- A column of a normalised head, the head's first column named. -/
theorem blockAt_norm (hb : FVec Ideal S256x2048 .bf16) (w : FVec Ideal S2048x6144 .bf16) (g : FVec Ideal S1x2048 .f32)
    (r : Fin 256) (o : ℕ) (l : Fin 128) (ho : o + 128 ≤ 2048) (hd : o % 128 = 0) :
    blockAt hb w g r (o + l) =
      rms128 (fun l => ∑ k : Fin 2048, hb (ix2 r k) * w (ix2 k ⟨o + l, by omega⟩)) l * g (ix2 0 ⟨o + l, by omega⟩) := by
  have hl := l.isLt
  have e1 : (o + (l : ℕ)) / 128 * 128 = o := by omega
  have e2 : (⟨(o + (l : ℕ)) % 128, by omega⟩ : Fin 128) = l := Fin.ext (by show (o + (l : ℕ)) % 128 = l; omega)
  have e3 : (⟨(o + (l : ℕ)) % 2048, by omega⟩ : Fin 2048) = ⟨o + l, by omega⟩ := Fin.ext (by show (o + (l : ℕ)) % 2048 = o + l; omega)
  unfold blockAt
  rw [if_pos (by omega), e1, e2, e3]
  refine congrArg (· * _) (congrArg (rms128 · l) (funext fun i => ?_))
  have hi := i.isLt
  exact Finset.sum_congr rfl fun k _ => congrArg (_ * ·) (dif_pos (by omega))

/-- A column past the heads. -/
theorem blockAt_plain (hb : FVec Ideal S256x2048 .bf16) (w : FVec Ideal S2048x6144 .bf16) (g : FVec Ideal S1x2048 .f32)
    (r : Fin 256) (o : ℕ) (l : Fin 128) (ho : 2048 ≤ o) (hd : o + 128 ≤ 6144) :
    blockAt hb w g r (o + l) = ∑ k : Fin 2048, hb (ix2 r k) * w (ix2 k ⟨o + l, by omega⟩) := by
  have hl := l.isLt
  unfold blockAt accAt
  rw [if_neg (by omega)]
  exact Finset.sum_congr rfl fun k _ => congrArg (_ * ·) (dif_pos (by omega))

set_option maxHeartbeats 2000000 in
/-- What the body leaves in the output block: every one of its 48 stores is a piece of one function of the block. -/
theorem out_at (A0 : FVec Ideal S256x2048 .f32) (A1 A2 : FVec Ideal S1x1x2048 .f32) (A3 : FVec Ideal S1x2048 .f32)
    (A4 : FVec Ideal S2048x6144 .bf16) (A5 : FVec Ideal S1x2048 .f32) (y : S256x6144.Idx) :
    out0_6 (F := Ideal) A0 A1 A2 A3 A4 A5 y
      = blockAt (k0_pay8 (View.ld A0 r0_0) (View.ld A3 r0_1) (View.ld A2 r0_2) (View.ld A1 r0_2)) A4 A5 (y 0) (y 1) := by
  canon_tiles x h
  all_goals
    idx_vars x
    idx_vars y
    obtain rfl : y0 = x0 := Fin.ext h0
    first
      | refine Eq.trans ?_ ((congrArg (blockAt _ _ _ _) h1).trans (blockAt_plain _ _ _ _ _ _ (by decide) (by decide))).symm
      | refine Eq.trans ?_ ((congrArg (blockAt _ _ _ _) h1).trans (blockAt_norm _ _ _ _ _ _ (by decide) (by decide))).symm
      | refine Eq.trans ?_ ((congrArg (blockAt _ _ _ _) (h1.trans (Nat.zero_add _).symm)).trans (blockAt_norm _ _ _ _ _ _ (by decide) (by decide))).symm
    open_payloads
    pointwise [rms128, rstd] <;> (try simp only [← Nat.add_assoc, Nat.reduceAdd, Nat.zero_add])

end Cert.Kernel2Ideal.InProj

end
-- ==== Proof.InProjRef.lean ====
module

public import proofs.«01_k».proof.Proof.Gen.Reference2Ideal.Read
public import Idealize.ShloMosaic.Lib.Pipeline.ValueKit
public import Idealize.ShloMosaic.Lib.Pointwise
public import proofs.«01_k».proof.Proof.InProjSpec

@[expose] public section

set_option maxRecDepth 16384

noncomputable section

namespace Cert.Reference2Ideal.InProj

open Cert.Reference2Ideal Cert.Reference2Ideal.Gen Cert.Reference2Ideal.Read Cert.Layer
open Idealize.ShloMosaic Idealize.ShloMosaic.TcCoe Idealize.SL.Sem

variable (X : FVec Ideal S8x2048x2048 .f32) (M : FVec Ideal S16x12288 .f32) (G : FVec Ideal S1x2048 .f32)
    (W : FVec Ideal S1x2048x6144 .f32) (Q K : FVec Ideal S1x128 .f32)

/-- The product at a column inside the array. -/
theorem projAt_in (R : Fin 16384) (c : Fin 6144) (e : ℕ) (h : e = c) :
    projAt X M G W R e = ∑ k : Fin 2048, hAt X M G R k * W (ix3 0 k c) := by
  subst h
  exact Finset.sum_congr rfl fun k _ => congrArg (_ * ·) (dif_pos c.isLt)

/-- The modulated normalised input at an index. -/
theorem h_at (b : Fin 8) (p : Fin 2048) (k : Fin 2048) (R : Fin 16384) (hb : (R : ℕ) / 2048 = b) (hp : (R : ℕ) % 2048 = p) :
    val_main_v23 (F := Ideal) X M G (ix3 b p k) = hAt X M G R k := by
  have e0 : (⟨(R : ℕ) / 2048, by omega⟩ : Fin 8) = b := Fin.ext hb
  have e1 : (⟨(R : ℕ) % 2048, by omega⟩ : Fin 2048) = p := Fin.ext hp
  have e2 : (⟨(R : ℕ) / 2048, by omega⟩ : Fin 16) = ⟨b, by omega⟩ := Fin.ext hb
  unfold hAt rstd
  rw [e0, e1, e2]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7, val_main_cst_8, val_main_cst_9]

/-- The product with the weights at an index. -/
theorem proj_at (b : Fin 8) (p : Fin 2048) (e : Fin 6144) (R : Fin 16384) (hb : (R : ℕ) / 2048 = b) (hp : (R : ℕ) % 2048 = p)
    (n : ℕ) (hn : n = e) :
    val_main_v25 (F := Ideal) X M G W (ix3 b p e) = projAt X M G W R n := by
  rw [projAt_in X M G W R e n hn]
  pointwise [val_main_v24, val_main_v25]
  exact Finset.sum_congr rfl fun k _ => congrArg (· * _) (h_at X M G b p k R hb hp)

/-- A query column. -/
theorem inProjAt_q (R : Fin 16384) (c : ℕ) (h : c < 1024) :
    inProjAt X M G W Q K R c = projAt X M G W R (c / 128 * 128 + c % 128)
      * rstd 0x43000000#32 (fun l : Fin 128 => projAt X M G W R (c / 128 * 128 + l)) * Q (ix2 0 ⟨c % 128, by omega⟩)
      * Ideal.ofBits .f32 0x3DB504F3#32 := by
  unfold inProjAt
  rw [if_pos h]
  rfl

/-- A key column. -/
theorem inProjAt_k (R : Fin 16384) (c : ℕ) (h : ¬ c < 1024) (h' : c < 2048) :
    inProjAt X M G W Q K R c = projAt X M G W R (c / 128 * 128 + c % 128)
      * rstd 0x43000000#32 (fun l : Fin 128 => projAt X M G W R (c / 128 * 128 + l)) * K (ix2 0 ⟨c % 128, by omega⟩) := by
  unfold inProjAt
  rw [if_neg h, if_pos h']
  rfl

/-- Every other column. -/
theorem inProjAt_v (R : Fin 16384) (c : ℕ) (h : ¬ c < 1024) (h' : ¬ c < 2048) :
    inProjAt X M G W Q K R c = projAt X M G W R c := by
  unfold inProjAt
  rw [if_neg h, if_neg h']

set_option maxHeartbeats 200000 in
/-- The reference's result at an index. -/
theorem ref_at (R : Fin 16384) (c : Fin 6144) :
    val_main_v65 (F := Ideal) X M G W Q K (ix2 R c) = inProjAt X M G W Q K R c := by
  have hc := c.isLt
  generalize hz : inProjAt X M G W Q K R c = z
  pointwise [val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_cst, val_main_cst_0, val_main_cst_1, val_main_cst_2, val_main_cst_3, val_main_cst_4, val_main_cst_5, val_main_cst_6, val_main_cst_7, val_main_cst_8, val_main_cst_9]
  have hp : ∀ (n : ℕ) (h : n < 6144) (n' : ℕ), n = n' →
      val_main_v25 (F := Ideal) X M G W (ix3 ⟨R / 2048, by omega⟩ ⟨R % 2048, by omega⟩ ⟨n, h⟩) = projAt X M G W R n' :=
    fun n h n' e => proj_at X M G W _ _ ⟨n, h⟩ R rfl rfl n' e.symm
  by_cases h1 : (c : ℕ) < 1024
  · refine Eq.trans ?_ ((inProjAt_q X M G W Q K R c h1).symm.trans hz)
    rw [dif_pos h1]
    unfold rstd
    refine congrArg₂ (· * ·) (congrArg₂ (· * ·) ?_ ?_) ?_
    · refine congrArg₂ (· * ·) ?_ ?_
      · exact hp _ _ _ rfl
      · refine congrArg Ideal.rsqrt (congrArg₂ (· + ·) ?_ ?_)
        · refine congrArg₂ Ideal.div ?_ ?_
          · refine Finset.sum_congr rfl fun x _ => ?_
            refine congrArg₂ (· * ·) ?_ ?_
            · exact hp _ _ _ rfl
            · exact hp _ _ _ rfl
          · rfl
        · rfl
    · rfl
    · rfl
  · by_cases h2 : (c : ℕ) < 2048
    · have e6 : ∀ x : ℕ, 1024 + (((c : ℕ) - 1024) / 128 * 128 + x) = (c : ℕ) / 128 * 128 + x := by omega
      have e7 : 1024 + (((c : ℕ) - 1024) / 128 * 128 + ((c : ℕ) - 1024) % 128) = (c : ℕ) / 128 * 128 + (c : ℕ) % 128 := by omega
      refine Eq.trans ?_ ((inProjAt_k X M G W Q K R c h1 h2).symm.trans hz)
      rw [dif_neg h1, dif_pos (show (c : ℕ) - 1024 < 1024 by omega)]
      unfold rstd
      refine congrArg₂ (· * ·) ?_ ?_
      · refine congrArg₂ (· * ·) ?_ ?_
        · exact hp _ _ _ e7
        · refine congrArg Ideal.rsqrt (congrArg₂ (· + ·) ?_ ?_)
          · refine congrArg₂ Ideal.div ?_ ?_
            · refine Finset.sum_congr rfl fun x _ => ?_
              refine congrArg₂ (· * ·) ?_ ?_
              · exact hp _ _ _ (e6 x)
              · exact hp _ _ _ (e6 x)
            · rfl
          · rfl
      · exact congrArg (fun z => K (ix2 0 z)) (Fin.ext (show ((c : ℕ) - 1024) % 128 = (c : ℕ) % 128 by omega))
    · refine Eq.trans ?_ ((inProjAt_v X M G W Q K R c h1 h2).symm.trans hz)
      rw [dif_neg h1, dif_neg (show ¬ (c : ℕ) - 1024 < 1024 by omega)]
      exact hp _ _ _ (show 2048 + ((c : ℕ) - 1024 - 1024) = (c : ℕ) by omega)

end Cert.Reference2Ideal.InProj

end
-- ==== Proof.InProjFinal.lean ====
module

public import proofs.«01_k».proof.Proof.InProjBlock
public import proofs.«01_k».proof.Proof.InProjRef
public import proofs.«01_k».proof.Proof.Gen.Reference2Ideal.Run
public import proofs.«01_k».proof.Defs

@[expose] public section

set_option maxRecDepth 16384

noncomputable section

namespace Cert.Kernel2Ideal.InProj

open Cert.Kernel2Ideal Cert.Kernel2Ideal.Gen Idealize.ShloMosaic Idealize.ShloMosaic.TcCoe Idealize.SL.Sem Cert.Layer
open Idealize.ShloMosaic.Pipeline (Dat)

variable (m : (ℓ : Loc nD τ sig) → Buf (Elt Ideal) ℓ)

/-- Where each window stands at a grid point. -/
theorem idx : ∀ t : Fin cfg0.N, win0_0.index t = ![t.val, 0] ∧ win0_1.index t = ![t.val / 8, 0, 0]
    ∧ win0_2.index t = ![t.val / 8, 0, 1] ∧ win0_3.index t = ![0, 0] ∧ win0_4.index t = ![0, 0]
    ∧ win0_5.index t = ![0, 0] ∧ win0_6.index t = ![t.val, 0] ∧ t.val < 64 :=
  (by decide +kernel : ∀ t : Fin grid0.N, _)

/-- The block of rows of the input. -/
theorem blk0 (c : Dev nD) (t : Fin cfg0.N) (r : Fin 256) (k : Fin 2048) (R : Fin 16384) (hR : (R : ℕ) = t.val * 256 + r) :
    (show FVec Ideal S256x2048 .f32 from iblk m c 0 t) (ix2 r k)
      = (show FVec Ideal S8x2048x2048 .f32 from m ((c : Thread nD τ).loc main_arg0)) (ix3 ⟨R / 2048, by omega⟩ ⟨R % 2048, by omega⟩ k) := by
  blk_simp [iblk, idx t]
  entry_read
  pointwise
  blk_ext [idx t]

/-- The row of shifts. -/
theorem blk1 (c : Dev nD) (t : Fin cfg0.N) (r : Fin 256) (k : Fin 2048) (R : Fin 16384) (hR : (R : ℕ) = t.val * 256 + r) :
    (show FVec Ideal S1x1x2048 .f32 from iblk m c 1 t) (ix3 0 0 k)
      = (show FVec Ideal S16x12288 .f32 from m ((c : Thread nD τ).loc main_arg1)) (ix2 ⟨R / 2048, by omega⟩ ⟨k, by omega⟩) := by
  blk_simp [iblk, idx t]
  entry_read
  pointwise
  blk_ext [idx t]

/-- The row of scales. -/
theorem blk2 (c : Dev nD) (t : Fin cfg0.N) (r : Fin 256) (k : Fin 2048) (R : Fin 16384) (hR : (R : ℕ) = t.val * 256 + r) :
    (show FVec Ideal S1x1x2048 .f32 from iblk m c 2 t) (ix3 0 0 k)
      = (show FVec Ideal S16x12288 .f32 from m ((c : Thread nD τ).loc main_arg1)) (ix2 ⟨R / 2048, by omega⟩ ⟨2048 + k, by omega⟩) := by
  blk_simp [iblk, idx t]
  entry_read
  pointwise
  blk_ext [idx t]

/-- The weights of the norm. -/
theorem blk3 (c : Dev nD) (t : Fin cfg0.N) (k : Fin 2048) :
    (show FVec Ideal S1x2048 .f32 from iblk m c 3 t) (ix2 0 k)
      = (show FVec Ideal S1x2048 .f32 from m ((c : Thread nD τ).loc main_arg2)) (ix2 0 k) := by
  blk_simp [iblk, idx t]
  entry_read
  pointwise
  blk_ext [idx t]

/-- The weights of the projection. -/
theorem blk4 (c : Dev nD) (t : Fin cfg0.N) (k : Fin 2048) (e : Fin 6144) :
    (show FVec Ideal S2048x6144 .bf16 from iblk m c 4 t) (ix2 k e)
      = (show FVec Ideal S1x2048x6144 .f32 from m ((c : Thread nD τ).loc main_arg3)) (ix3 0 k e) := by
  blk_simp [iblk, idx t]
  entry_read
  pointwise
  blk_ext [idx t]

/-- The weights of the heads' norms, the queries' scaled. -/
theorem blk5 (c : Dev nD) (t : Fin cfg0.N) (e : Fin 2048) :
    (show FVec Ideal S1x2048 .f32 from iblk m c 5 t) (ix2 0 e)
      = if (e : ℕ) < 1024 then (show FVec Ideal S1x128 .f32 from m ((c : Thread nD τ).loc main_arg4)) (ix2 0 ⟨e % 128, by omega⟩) * Ideal.ofBits .f32 0x3DB504F3#32 else (show FVec Ideal S1x128 .f32 from m ((c : Thread nD τ).loc main_arg5)) (ix2 0 ⟨e % 128, by omega⟩) := by
  blk_simp [iblk, idx t]
  entry_read
  pointwise
  refine Eq.trans (b := (if _h : (e : ℕ) < 1024 then (show FVec Ideal S1x128 .f32 from m ((c : Thread nD τ).loc main_arg4)) (ix2 0 ⟨e % 128, by omega⟩) * Ideal.ofBits .f32 0x3DB504F3#32
    else (show FVec Ideal S1x128 .f32 from m ((c : Thread nD τ).loc main_arg5)) (ix2 0 ⟨(e - 1024) % 128, by omega⟩))) ?_ ?_
  · blk_ext [idx t]
  · split
    · rfl
    · exact congrArg _ (congrArg _ (Fin.ext (by show ((e : ℕ) - 1024) % 128 = (e : ℕ) % 128; omega)))

/-- The modulated normalised rows of the block. -/
theorem h_at (c : Dev nD) (t : Fin cfg0.N) (r : Fin 256) (k : Fin 2048) (R : Fin 16384) (hR : (R : ℕ) = t.val * 256 + r) :
    k0_pay8 (F := Ideal) (View.ld (iblk m c 0 t) r0_0) (View.ld (iblk m c 3 t) r0_1) (View.ld (iblk m c 2 t) r0_2)
        (View.ld (iblk m c 1 t) r0_2) (ix2 r k)
      = hAt (show FVec Ideal S8x2048x2048 .f32 from m ((c : Thread nD τ).loc main_arg0)) (show FVec Ideal S16x12288 .f32 from m ((c : Thread nD τ).loc main_arg1)) (show FVec Ideal S1x2048 .f32 from m ((c : Thread nD τ).loc main_arg2)) R k := by
  pointwise [k0_pay8]
  refine (?_ : (show FVec Ideal S256x2048 .f32 from iblk m c 0 t) (ix2 r k)
      * rstd 0x45000000#32 (fun i : Fin 2048 => (show FVec Ideal S256x2048 .f32 from iblk m c 0 t) (ix2 r i))
      * (show FVec Ideal S1x2048 .f32 from iblk m c 3 t) (ix2 0 k)
      * (1 + (show FVec Ideal S1x1x2048 .f32 from iblk m c 2 t) (ix3 0 0 k))
      + (show FVec Ideal S1x1x2048 .f32 from iblk m c 1 t) (ix3 0 0 k) = _)
  rw [blk1 m c t r k R hR, blk2 m c t r k R hR, blk3 m c t k, blk0 m c t r k R hR,
    funext fun i => blk0 m c t r i R hR]
  rfl

/-- The product's column of the block. -/
theorem acc_at (c : Dev nD) (t : Fin cfg0.N) (r : Fin 256) (R : Fin 16384) (hR : (R : ℕ) = t.val * 256 + r) (n : ℕ) :
    accAt (k0_pay8 (F := Ideal) (View.ld (iblk m c 0 t) r0_0) (View.ld (iblk m c 3 t) r0_1) (View.ld (iblk m c 2 t) r0_2)
        (View.ld (iblk m c 1 t) r0_2)) (iblk m c 4 t) r n
      = projAt (show FVec Ideal S8x2048x2048 .f32 from m ((c : Thread nD τ).loc main_arg0)) (show FVec Ideal S16x12288 .f32 from m ((c : Thread nD τ).loc main_arg1)) (show FVec Ideal S1x2048 .f32 from m ((c : Thread nD τ).loc main_arg2)) (show FVec Ideal S1x2048x6144 .f32 from m ((c : Thread nD τ).loc main_arg3)) R n := by
  unfold accAt projAt
  refine Finset.sum_congr rfl fun k _ => ?_
  rw [h_at m c t r k R hR]
  refine congrArg _ ?_
  split
  · exact blk4 m c t k _
  · rfl

/-- The stored block at an index is the projection at the index of the array. -/
theorem block_at (c : Dev nD) (t : Fin cfg0.N) (r : Fin 256) (R : Fin 16384) (hR : (R : ℕ) = t.val * 256 + r) (n : Fin 6144) :
    out0_6 (F := Ideal) (iblk m c 0 t) (iblk m c 1 t) (iblk m c 2 t) (iblk m c 3 t) (iblk m c 4 t) (iblk m c 5 t) (ix2 r n)
      = inProjAt (show FVec Ideal S8x2048x2048 .f32 from m ((c : Thread nD τ).loc main_arg0)) (show FVec Ideal S16x12288 .f32 from m ((c : Thread nD τ).loc main_arg1)) (show FVec Ideal S1x2048 .f32 from m ((c : Thread nD τ).loc main_arg2)) (show FVec Ideal S1x2048x6144 .f32 from m ((c : Thread nD τ).loc main_arg3)) (show FVec Ideal S1x128 .f32 from m ((c : Thread nD τ).loc main_arg4)) (show FVec Ideal S1x128 .f32 from m ((c : Thread nD τ).loc main_arg5)) R n := by
  rw [out_at]
  show blockAt _ _ _ r n = _
  unfold blockAt inProjAt
  by_cases h2 : (n : ℕ) < 2048
  · have hg := blk5 m c t ⟨(n : ℕ) % 2048, by omega⟩
    have e1 : (n : ℕ) % 2048 = n := by omega
    rw [if_pos h2]
    refine (congrArg (_ * ·) hg).trans ?_
    simp only [e1]
    by_cases h1 : (n : ℕ) < 1024
    · rw [if_pos h1, if_pos h1, mul_assoc]
      exact congrArg (fun f => rms128 f _ * _) (funext fun l => acc_at m c t r R hR _)
    · rw [if_neg h1, if_neg h1, if_pos h2]
      exact congrArg (fun f => rms128 f _ * _) (funext fun l => acc_at m c t r R hR _)
  · rw [if_neg h2, if_neg (by omega), if_neg h2]
    exact acc_at m c t r R hR _

/-- The call's result is the reference's array. -/
theorem final (c : Dev nD) : (dats m 0 c).arrAt 6 (cfgs 0).N
    = Cert.Reference2Ideal.Read.val_main_v65 (F := Ideal) (show FVec Ideal S8x2048x2048 .f32 from m ((c : Thread nD τ).loc main_arg0)) (show FVec Ideal S16x12288 .f32 from m ((c : Thread nD τ).loc main_arg1)) (show FVec Ideal S1x2048 .f32 from m ((c : Thread nD τ).loc main_arg2)) (show FVec Ideal S1x2048x6144 .f32 from m ((c : Thread nD τ).loc main_arg3)) (show FVec Ideal S1x128 .f32 from m ((c : Thread nD τ).loc main_arg4)) (show FVec Ideal S1x128 .f32 from m ((c : Thread nD τ).loc main_arg5)) := by
  refine (dats m 0 c).arrAt_eq_of_covers 6 _ (by decide +kernel) fun t _ y => ?_
  blk_simp
  rw [after0_6]
  have ht := (idx t).2.2.2.2.2.2.2
  idx_vars y
  refine (block_at m c t y0 ⟨t.val * 256 + y0, by omega⟩ rfl y1).trans ?_
  rw [← Cert.Reference2Ideal.InProj.ref_at]
  blk_ext [idx t]

end Cert.Kernel2Ideal.InProj

namespace Cert.InProj

open Idealize.ShloMosaic Idealize.ShloMosaic.TcCoe Idealize.SL.Sem

/-- Over the ideal numbers the call's result is the reference's. -/
theorem algebraic : @Cert.algebraic_Kernel2Ideal_Reference2Ideal Cert.Kernel2Ideal.Gen.facts Cert.Reference2Ideal.Gen.facts := by
  intro m g m' g' _ hag
  refine ⟨fun c => (Cert.Kernel2Ideal.Gen.dats m 0 c).arrAt 6 Cert.Kernel2Ideal.cfg0.N, ?_, ?_⟩
  · exact Cert.Kernel2Ideal.Value.run_blocks m g
  · refine (θ_run _ _ _).mono (fun r h c => ?_) (Cert.Reference2Ideal.Value.run (F := Ideal) m' g')
    obtain ⟨h0, hk⟩ := h c
    refine ⟨?_, hk⟩
    rw [h0]
    obtain ⟨a0, a1, a2, a3, a4, a5⟩ := hag c
    refine Eq.trans ?_ (Cert.Kernel2Ideal.InProj.final m c).symm
    refine (Cert.Reference2Ideal.Read.val_main_v65_eq m' c).trans ?_
    rw [a0, a1, a2, a3, a4, a5]

end Cert.InProj

end
-- ==== Proof.MixSpec.lean ====
module

public import proofs.«01_k».proof.Proof.InProjSpec

@[expose] public section

set_option maxRecDepth 16384

noncomputable section

namespace Cert.Layer

open Idealize.ShloMosaic

variable (OA : FVec Ideal ⟨2, ![16384, 1024]⟩ .bf16) (P : FVec Ideal ⟨2, ![16384, 6144]⟩ .bf16)
  (X : FVec Ideal ⟨3, ![8, 2048, 2048]⟩ .f32) (M : FVec Ideal ⟨2, ![16, 12288]⟩ .f32)
  (WC : FVec Ideal ⟨3, ![1, 3, 1024]⟩ .f32) (GC : FVec Ideal ⟨3, ![1, 8, 128]⟩ .f32)
  (WO : FVec Ideal ⟨3, ![1, 2048, 2048]⟩ .f32) (G2 : FVec Ideal ⟨2, ![1, 2048]⟩ .f32)

/-- The gated input of the convolution at row `R`, channel `c`. -/
def zAt (R : Fin 16384) (c : Fin 1024) : EReal := P (ix2 R ⟨4096 + c, by omega⟩) * P (ix2 R ⟨5120 + c, by omega⟩)

/-- The gated convolution of three rows of one sequence, zeros past its two ends. -/
def convAt (R : Fin 16384) (c : Fin 1024) : EReal :=
  P (ix2 R ⟨3072 + c, by omega⟩)
    * (WC (ix3 0 0 c) * (if h : (R : ℕ) % 2048 = 0 then 0 else zAt P ⟨R - 1, by omega⟩ c)
      + WC (ix3 0 1 c) * zAt P R c
      + WC (ix3 0 2 c) * (if h : (R : ℕ) % 2048 = 2047 then 0 else zAt P ⟨R + 1, by omega⟩ c))

/-- The convolution normalised group by group. -/
def convNormAt (R : Fin 16384) (c : Fin 1024) : EReal :=
  rms128 (fun l => convAt P WC R ⟨c / 128 * 128 + l, by omega⟩) ⟨c % 128, by omega⟩ * GC (ix3 0 ⟨c / 128, by omega⟩ ⟨c % 128, by omega⟩)

/-- The output projection of the attention's and the convolution's channels. -/
def mixAt (R : Fin 16384) (e : Fin 2048) : EReal :=
  (∑ k : Fin 1024, OA (ix2 R k) * WO (ix3 0 ⟨k, by omega⟩ e))
    + ∑ k : Fin 1024, convNormAt P WC GC R k * WO (ix3 0 ⟨1024 + k, by omega⟩ e)

/-- The gated residual sum. -/
def residAt (R : Fin 16384) (e : Fin 2048) : EReal :=
  X (ix3 ⟨R / 2048, by omega⟩ ⟨R % 2048, by omega⟩ e) + M (ix2 ⟨R / 2048, by omega⟩ ⟨4096 + e, by omega⟩) * mixAt OA P WC GC WO R e

/-- The modulated norm of the residual sum. -/
def normedAt (R : Fin 16384) (e : Fin 2048) : EReal :=
  residAt OA P X M WC GC WO R e * rstd 0x45000000#32 (fun i : Fin 2048 => residAt OA P X M WC GC WO R i) * G2 (ix2 0 e)
      * (1 + M (ix2 ⟨R / 2048, by omega⟩ ⟨8192 + e, by omega⟩))
    + M (ix2 ⟨R / 2048, by omega⟩ ⟨6144 + e, by omega⟩)

end Cert.Layer

end
-- ==== Proof.MixBlock.lean ====
module

public import proofs.«01_k».proof.Proof.Gen.Kernel3Ideal.Value
public import Idealize.ShloMosaic.Lib.Pipeline.ValueKit
public import Idealize.ShloMosaic.Lib.Pointwise
public import proofs.«01_k».proof.Proof.MixSpec

@[expose] public section

set_option maxRecDepth 16384

noncomputable section

namespace Cert.Kernel3Ideal.Mix

open Cert.Kernel3Ideal Cert.Kernel3Ideal.Gen Idealize.ShloMosaic Idealize.ShloMosaic.TcCoe Idealize.SL.Sem Cert.Layer

/-- A comparison of a row number with zero. -/
theorem row_first (r : Fin 256) : IntOp.cmpi .eq (BitVec.ofNat 32 (r : ℕ)) 0#32 = if (r : ℕ) = 0 then 1#1 else 0#1 := by
  revert r; decide +kernel

/-- A comparison of a row number with the last. -/
theorem row_last (r : Fin 256) : IntOp.cmpi .eq (BitVec.ofNat 32 (r : ℕ)) 255#32 = if (r : ℕ) = 255 then 1#1 else 0#1 := by
  revert r; decide +kernel

/-- The convolution of a block of rows at an index: the row before the first and the row after the last are given. -/
theorem conv_pay (Z : FVec Ideal S256x1024 .f32) (zp zn : FVec Ideal S1x1024 .f32) (w0 w1 w2 : FVec Ideal S1x1024 .f32)
    (bg : FVec Ideal S256x1024 .bf16) (r : Fin 256) (c : Fin 1024) :
    k0_pay6 (F := Ideal) Z zp zn (iota .tc S256x1 32 [0] iota_S256x1_d0_w32) 0#32 w0 w1 w2 bg (ix2 r c)
      = bg (ix2 r c) * (w0 (ix2 0 c) * (if h : (r : ℕ) = 0 then zp (ix2 0 c) else Z (ix2 ⟨r - 1, by omega⟩ c))
        + w1 (ix2 0 c) * Z (ix2 r c)
        + w2 (ix2 0 c) * (if h : (r : ℕ) = 255 then zn (ix2 0 c) else Z (ix2 ⟨r + 1, by omega⟩ c))) := by
  pointwise [k0_pay6]
  rw [row_first r, row_last r]
  refine congrArg (_ * ·) (congrArg₂ (· + ·) (congrArg (· + _) (congrArg (_ * ·) ?_)) (congrArg (_ * ·) ?_))
  · by_cases h : (r : ℕ) = 0
    · rw [if_pos h, dif_pos h]
      rfl
    · rw [if_neg h, dif_neg h]
      exact congrArg (fun q => Z (ix2 q c)) (Fin.ext (show ((r : ℕ) + 256 - 1) % 256 = (r : ℕ) - 1 by omega))
  · by_cases h : (r : ℕ) = 255
    · rw [if_pos h, dif_pos h]
      rfl
    · rw [if_neg h, dif_neg h]
      exact congrArg (fun q => Z (ix2 q c)) (Fin.ext (show ((r : ℕ) + 256 - 255) % 256 = (r : ℕ) + 1 by omega))

/-- The eight normalised groups side by side. -/
def cat (p0 p1 p2 p3 p4 p5 p6 p7 : FVec Ideal S256x128 .bf16) : FVec Ideal S256x1024 .bf16 :=
  concatenate S256x1024 1 [⟨S256x128, p0⟩, ⟨S256x128, p1⟩, ⟨S256x128, p2⟩, ⟨S256x128, p3⟩, ⟨S256x128, p4⟩, ⟨S256x128, p5⟩, ⟨S256x128, p6⟩, ⟨S256x128, p7⟩]
    concatenates_S256x128_S256x128_S256x128_S256x128_S256x128_S256x128_S256x128_S256x128_S256x1024_d1

/-- A group of a block's columns normalised and scaled. -/
def normBlock (A : FVec Ideal S256x1024 .f32) (g : FVec Ideal S1x1024 .f32) (r : Fin 256) (c : Fin 1024) : EReal :=
  rms128 (fun l => A (ix2 r ⟨c / 128 * 128 + l, by omega⟩)) ⟨c % 128, by omega⟩ * g (ix2 0 c)

/-- The same at a column given by its group's first column. -/
theorem normBlock_at (A : FVec Ideal S256x1024 .f32) (g : FVec Ideal S1x1024 .f32) (r : Fin 256) (o : ℕ) (ho : o ≤ 896) (hd : o % 128 = 0)
    (l : Fin 128) (c : Fin 1024) (hc : (c : ℕ) = o + l) :
    normBlock A g r c = A (ix2 r ⟨o + l, by omega⟩) * rstd 0x43000000#32 (fun i : Fin 128 => A (ix2 r ⟨o + i, by omega⟩)) * g (ix2 0 ⟨o + l, by omega⟩) := by
  have e1 : ∀ i : Fin 128, (⟨(c : ℕ) / 128 * 128 + i, by omega⟩ : Fin 1024) = ⟨o + i, by omega⟩ :=
    fun i => Fin.ext (by show (c : ℕ) / 128 * 128 + (i : ℕ) = o + i; omega)
  have e2 : (⟨(c : ℕ) / 128 * 128 + (c : ℕ) % 128, by omega⟩ : Fin 1024) = ⟨o + l, by omega⟩ :=
    Fin.ext (by show (c : ℕ) / 128 * 128 + (c : ℕ) % 128 = o + l; omega)
  have e3 : c = ⟨o + l, by omega⟩ := Fin.ext hc
  unfold normBlock rms128
  simp only [e1, e2]
  rw [← e3]

/-- The same in the first group. -/
theorem normBlock_zero (A : FVec Ideal S256x1024 .f32) (g : FVec Ideal S1x1024 .f32) (r : Fin 256)
    (l : Fin 128) (c : Fin 1024) (hc : (c : ℕ) = l) :
    normBlock A g r c = A (ix2 r ⟨l, by omega⟩) * rstd 0x43000000#32 (fun i : Fin 128 => A (ix2 r ⟨i, by omega⟩)) * g (ix2 0 ⟨l, by omega⟩) := by
  refine (normBlock_at A g r 0 (by omega) rfl l c (by omega)).trans ?_
  simp only [Nat.zero_add]

/-- The seventh group's stored numbers. -/
def group6 (v163 : FVec Ideal S256x128 .f32) (v168 v169 : FVec Ideal S256x1 .f32) (v174 : FVec Ideal S1x128 .f32) : FVec Ideal S256x128 .bf16 :=
  truncf .bf16 (mulf (mulf v163 (broadcastTo S256x128 (rsqrt (addf v168 v169)) broadcasts_S256x1_S256x128))
    (broadcastTo S256x128 (shapeCast S1x128 v174 shapeCasts_S1x128_S1x128) broadcasts_S1x128_S256x128)) bitsLt_bf16_f32

/-- The eighth group's stored numbers. -/
def group7 (v66 : FVec Ideal S256x1024 .f32) (v190 : FVec Ideal S1x128 .f32) : FVec Ideal S256x128 .bf16 :=
  have v179 : FVec Ideal S256x128 .f32 := extractStridedSlice S256x128 ![0, 896] v66 slices_S256x1024_o0_896_S256x128
  truncf .bf16 (mulf (mulf v179 (broadcastTo S256x128 (rsqrt (addf (divf (shapeCast S256x1
      (multiReduction .add [1] S256 (mulf v179 v179) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
    (broadcastTo S256x128 (shapeCast S1x128 v190 shapeCasts_S1x128_S1x128) broadcasts_S1x128_S256x128)) bitsLt_bf16_f32

/-- The first group's stored numbers. -/
def group0 (v66 : FVec Ideal S256x1024 .f32) (v78 : FVec Ideal S1x128 .f32) : FVec Ideal S256x128 .bf16 :=
  have v67 : FVec Ideal S256x128 .f32 := extractStridedSlice S256x128 ![0, 0] v66 slices_S256x1024_o0_0_S256x128
  k0_pay8 (mulf v67 (broadcastTo S256x128 (rsqrt (addf (divf (shapeCast S256x1
      (multiReduction .add [1] S256 (mulf v67 v67) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128)) v78

/-- The normalised groups at an index. -/
theorem cat_at (A : FVec Ideal S256x1024 .f32) (g : FVec Ideal S1x1024 .f32) (r : Fin 256) (k : Fin 1024) :
    cat (group0 A (View.ld (Val := Elt Ideal) (e' := .f32) g r0_6)) (k0_pay9 A (View.ld (Val := Elt Ideal) (e' := .f32) g r0_7)) (k0_pay10 A (View.ld (Val := Elt Ideal) (e' := .f32) g r0_8)) (k0_pay13 (k0_pay11 A) (k0_pay12 A) (View.ld (Val := Elt Ideal) (e' := .f32) g r0_9))
      (k0_pay14 A (View.ld (Val := Elt Ideal) (e' := .f32) g r0_10)) (k0_pay15 A (View.ld (Val := Elt Ideal) (e' := .f32) g r0_11)) (group6 (k0_pay16 A) (k0_pay17 A) k0_pay18 (View.ld (Val := Elt Ideal) (e' := .f32) g r0_12))
      (group7 A (View.ld (Val := Elt Ideal) (e' := .f32) g r0_13)) (ix2 r k) = normBlock A g r k := by
  have hk := k.isLt
  generalize hz : normBlock A g r k = z
  pointwise [cat, group0, k0_pay8, k0_pay9, k0_pay10, k0_pay13, k0_pay11, k0_pay12, k0_pay14, k0_pay15, group6, k0_pay16, k0_pay17, k0_pay18, group7]
  subst hz
  split
  · rename_i h
    exact (normBlock_zero A g r ⟨k, h⟩ k rfl).symm
  split
  · rename_i h
    exact (normBlock_at A g r 128 (by omega) rfl ⟨_, h⟩ k (show (k : ℕ) = 128 + ((k : ℕ) - 128) by omega)).symm
  split
  · rename_i h
    exact (normBlock_at A g r 256 (by omega) rfl ⟨_, h⟩ k (show (k : ℕ) = 256 + ((k : ℕ) - 128 - 128) by omega)).symm
  split
  · rename_i h
    exact (normBlock_at A g r 384 (by omega) rfl ⟨_, h⟩ k (show (k : ℕ) = 384 + ((k : ℕ) - 128 - 128 - 128) by omega)).symm
  split
  · rename_i h
    exact (normBlock_at A g r 512 (by omega) rfl ⟨_, h⟩ k (show (k : ℕ) = 512 + ((k : ℕ) - 128 - 128 - 128 - 128) by omega)).symm
  split
  · rename_i h
    exact (normBlock_at A g r 640 (by omega) rfl ⟨_, h⟩ k (show (k : ℕ) = 640 + ((k : ℕ) - 128 - 128 - 128 - 128 - 128) by omega)).symm
  split
  · rename_i h
    exact (normBlock_at A g r 768 (by omega) rfl ⟨_, h⟩ k (show (k : ℕ) = 768 + ((k : ℕ) - 128 - 128 - 128 - 128 - 128 - 128) by omega)).symm
  · exact (normBlock_at A g r 896 (by omega) rfl ⟨(k : ℕ) - 128 - 128 - 128 - 128 - 128 - 128 - 128, by omega⟩ k
      (show (k : ℕ) = 896 + ((k : ℕ) - 128 - 128 - 128 - 128 - 128 - 128 - 128) by omega)).symm

/-- The gate times the projection of the attention's columns and the normalised groups. -/
def gated (C : FVec Ideal S256x1024 .bf16) (v196 : FVec Ideal S256x1024 .bf16) (v197 v200 : FVec Ideal S1024x2048 .bf16)
    (v206 : FVec Ideal S1x1x2048 .f32) : FVec Ideal S256x2048 .f32 :=
  mulf (broadcastTo S256x2048 (shapeCast S1x2048 v206 shapeCasts_S1x1x2048_S1x2048) broadcasts_S1x2048_S256x2048)
    (addf (matmul dot_S256x1024_S1024x2048_S256x2048_1_0_0_1_n_n none v196 (shapeCast S1024x2048 v197 shapeCasts_S1024x2048_S1024x2048) (constant S256x2048 .f32 0x00000000#32))
      (matmul dot_S256x1024_S1024x2048_S256x2048_1_0_0_1_n_n none C (shapeCast S1024x2048 v200 shapeCasts_S1024x2048_S1024x2048) (constant S256x2048 .f32 0x00000000#32)))

/-- The gated projection at an index. -/
theorem gated_at (C : FVec Ideal S256x1024 .bf16) (A0 : FVec Ideal S256x1024 .bf16) (A11 : FVec Ideal S2048x2048 .bf16)
    (A12 : FVec Ideal S1x1x2048 .f32) (r : Fin 256) (e : Fin 2048) :
    gated C (View.ld (Val := Elt Ideal) (e' := .bf16) A0 r0_0) (View.ld (Val := Elt Ideal) (e' := .bf16) A11 r0_14) (View.ld (Val := Elt Ideal) (e' := .bf16) A11 r0_15) (View.ld (Val := Elt Ideal) (e' := .f32) A12 r0_17) (ix2 r e)
      = A12 (ix3 0 0 e) * ((∑ k : Fin 1024, A0 (ix2 r k) * A11 (ix2 ⟨k, by omega⟩ e)) + ∑ k : Fin 1024, C (ix2 r k) * A11 (ix2 ⟨1024 + k, by omega⟩ e)) := by
  pointwise [gated]

section

variable (i : grid0.Coords) (A0 A1 A2 A3 : FVec Ideal S256x1024 .bf16) (A4 A5 A6 A7 : FVec Ideal S16x1024 .bf16) (A8 : FVec Ideal S256x2048 .f32)
  (A9 : FVec Ideal S3x1024 .f32) (A10 : FVec Ideal S1x1024 .f32) (A11 : FVec Ideal S2048x2048 .bf16) (A12 : FVec Ideal S1x1x2048 .f32)
  (A13 : FVec Ideal S1x2048 .f32) (A14 A15 : FVec Ideal S1x1x2048 .f32)

/-- The body's gated projection, its groups named. -/
theorem pay27_eq : k0_pay27 (F := Ideal) i A0 A1 A2 A3 A4 A5 A6 A7 A8 A9 A10 A11 A12 A13 A14 A15
    = gated (cat (group0 (k0_pay25 i A0 A1 A2 A3 A4 A5 A6 A7 A8 A9 A10 A11 A12 A13 A14 A15) (View.ld (Val := Elt Ideal) (e' := .f32) A10 r0_6))
      (k0_pay9 (k0_pay25 i A0 A1 A2 A3 A4 A5 A6 A7 A8 A9 A10 A11 A12 A13 A14 A15) (View.ld (Val := Elt Ideal) (e' := .f32) A10 r0_7))
      (k0_pay10 (k0_pay25 i A0 A1 A2 A3 A4 A5 A6 A7 A8 A9 A10 A11 A12 A13 A14 A15) (View.ld (Val := Elt Ideal) (e' := .f32) A10 r0_8))
      (k0_pay13 (k0_pay11 (k0_pay25 i A0 A1 A2 A3 A4 A5 A6 A7 A8 A9 A10 A11 A12 A13 A14 A15)) (k0_pay12 (k0_pay25 i A0 A1 A2 A3 A4 A5 A6 A7 A8 A9 A10 A11 A12 A13 A14 A15)) (View.ld (Val := Elt Ideal) (e' := .f32) A10 r0_9))
      (k0_pay14 (k0_pay25 i A0 A1 A2 A3 A4 A5 A6 A7 A8 A9 A10 A11 A12 A13 A14 A15) (View.ld (Val := Elt Ideal) (e' := .f32) A10 r0_10))
      (k0_pay15 (k0_pay25 i A0 A1 A2 A3 A4 A5 A6 A7 A8 A9 A10 A11 A12 A13 A14 A15) (View.ld (Val := Elt Ideal) (e' := .f32) A10 r0_11))
      (group6 (k0_pay16 (k0_pay25 i A0 A1 A2 A3 A4 A5 A6 A7 A8 A9 A10 A11 A12 A13 A14 A15)) (k0_pay17 (k0_pay25 i A0 A1 A2 A3 A4 A5 A6 A7 A8 A9 A10 A11 A12 A13 A14 A15)) k0_pay18 (View.ld (Val := Elt Ideal) (e' := .f32) A10 r0_12))
      (group7 (k0_pay25 i A0 A1 A2 A3 A4 A5 A6 A7 A8 A9 A10 A11 A12 A13 A14 A15) (View.ld (Val := Elt Ideal) (e' := .f32) A10 r0_13)))
      (View.ld (Val := Elt Ideal) (e' := .bf16) A0 r0_0) (View.ld (Val := Elt Ideal) (e' := .bf16) A11 r0_14) (View.ld (Val := Elt Ideal) (e' := .bf16) A11 r0_15) (View.ld (Val := Elt Ideal) (e' := .f32) A12 r0_17) := rfl

/-- The body's gated projection at an index, from its convolution. -/
theorem pay27_at (r : Fin 256) (e : Fin 2048) : k0_pay27 (F := Ideal) i A0 A1 A2 A3 A4 A5 A6 A7 A8 A9 A10 A11 A12 A13 A14 A15 (ix2 r e)
    = A12 (ix3 0 0 e) * ((∑ k : Fin 1024, A0 (ix2 r k) * A11 (ix2 ⟨k, by omega⟩ e))
        + ∑ k : Fin 1024, normBlock (k0_pay25 i A0 A1 A2 A3 A4 A5 A6 A7 A8 A9 A10 A11 A12 A13 A14 A15) A10 r k * A11 (ix2 ⟨1024 + k, by omega⟩ e)) := by
  rw [pay27_eq, gated_at]
  exact congrArg (_ * ·) (congrArg (_ + ·) (Finset.sum_congr rfl fun k _ => congrArg (· * _) (cat_at _ _ r k)))

/-- The body's convolution at an index. -/
theorem pay25_at (r : Fin 256) (c : Fin 1024) : k0_pay25 (F := Ideal) i A0 A1 A2 A3 A4 A5 A6 A7 A8 A9 A10 A11 A12 A13 A14 A15 (ix2 r c)
    = A1 (ix2 r c) * (A9 (ix2 0 c) * (if h : (r : ℕ) = 0 then k0_pay4 (F := Ideal) i (View.ld (Val := Elt Ideal) (e' := .bf16) A4 r0_1) (View.ld (Val := Elt Ideal) (e' := .bf16) A5 r0_1) (ix2 0 c)
          else A2 (ix2 ⟨r - 1, by omega⟩ c) * A3 (ix2 ⟨r - 1, by omega⟩ c))
        + A9 (ix2 1 c) * (A2 (ix2 r c) * A3 (ix2 r c))
        + A9 (ix2 2 c) * (if h : (r : ℕ) = 255 then k0_pay5 (F := Ideal) i (View.ld (Val := Elt Ideal) (e' := .bf16) A6 r0_2) (View.ld (Val := Elt Ideal) (e' := .bf16) A7 r0_2) (ix2 0 c)
          else A2 (ix2 ⟨r + 1, by omega⟩ c) * A3 (ix2 ⟨r + 1, by omega⟩ c))) := by
  have hZ : k0_pay22 (F := Ideal) i A0 A1 A2 A3 A4 A5 A6 A7 A8 A9 A10 A11 A12 A13 A14 A15 = fun y => A2 y * A3 y := by
    funext y
    idx_vars y
    unfold k0_pay22
    pointwise [k0_pay3]
  unfold k0_pay25
  rw [hZ]
  refine (conv_pay _ _ _ _ _ _ _ r c).trans ?_
  refine congrArg₂ (· * ·) ?_ (congrArg₂ (· + ·) (congrArg₂ (· + ·) (congrArg (· * _) ?_) (congrArg (· * _) ?_)) (congrArg (· * _) ?_))
  · pointwise
  · pointwise
  · pointwise
  · pointwise

/-- The first result's block at an index. -/
theorem out16_at (r : Fin 256) (e : Fin 2048) : out0_16 (F := Ideal) i A0 A1 A2 A3 A4 A5 A6 A7 A8 A9 A10 A11 A12 A13 A14 A15 (ix2 r e)
    = A8 (ix2 r e) + k0_pay27 (F := Ideal) i A0 A1 A2 A3 A4 A5 A6 A7 A8 A9 A10 A11 A12 A13 A14 A15 (ix2 r e) := by
  have h : out0_16 (F := Ideal) i A0 A1 A2 A3 A4 A5 A6 A7 A8 A9 A10 A11 A12 A13 A14 A15 = k0_pay1 (F := Ideal) (k0_pay19 (View.ld (Val := Elt Ideal) (e' := .f32) A8 r0_16))  (k0_pay27 (F := Ideal) i A0 A1 A2 A3 A4 A5 A6 A7 A8 A9 A10 A11 A12 A13 A14 A15) := by
    unfold out0_16 k0_pay26
    frame_out
  rw [h]
  generalize k0_pay27 (F := Ideal) i A0 A1 A2 A3 A4 A5 A6 A7 A8 A9 A10 A11 A12 A13 A14 A15 = B
  pointwise [k0_pay1, k0_pay19]

/-- The second result's block at an index, from the first's. -/
theorem out17_at (r : Fin 256) (e : Fin 2048) : out0_17 (F := Ideal) i A0 A1 A2 A3 A4 A5 A6 A7 A8 A9 A10 A11 A12 A13 A14 A15 (ix2 r e)
    = (A8 (ix2 r e) + k0_pay27 (F := Ideal) i A0 A1 A2 A3 A4 A5 A6 A7 A8 A9 A10 A11 A12 A13 A14 A15 (ix2 r e))
        * rstd 0x45000000#32 (fun j : Fin 2048 => A8 (ix2 r j) + k0_pay27 (F := Ideal) i A0 A1 A2 A3 A4 A5 A6 A7 A8 A9 A10 A11 A12 A13 A14 A15 (ix2 r j))
        * A13 (ix2 0 e) * (1 + A15 (ix3 0 0 e)) + A14 (ix3 0 0 e) := by
  have h : out0_17 (F := Ideal) i A0 A1 A2 A3 A4 A5 A6 A7 A8 A9 A10 A11 A12 A13 A14 A15
      = k0_pay2 (F := Ideal) (k0_pay19 (View.ld (Val := Elt Ideal) (e' := .f32) A8 r0_16))  (k0_pay27 (F := Ideal) i A0 A1 A2 A3 A4 A5 A6 A7 A8 A9 A10 A11 A12 A13 A14 A15) (View.ld (Val := Elt Ideal) (e' := .f32) A13 r0_18) (View.ld (Val := Elt Ideal) (e' := .f32) A15 r0_17) (View.ld (Val := Elt Ideal) (e' := .f32) A14 r0_17) := by
    unfold out0_17 k0_pay26
    frame_out
  rw [h]
  generalize k0_pay27 (F := Ideal) i A0 A1 A2 A3 A4 A5 A6 A7 A8 A9 A10 A11 A12 A13 A14 A15 = B
  pointwise [k0_pay2, k0_pay1, k0_pay19, rstd]

end

end Cert.Kernel3Ideal.Mix

end
-- ==== Proof.MixRef.lean ====
module

public import proofs.«01_k».proof.Proof.Gen.Reference3Ideal.Read
public import Idealize.ShloMosaic.Lib.Pipeline.ValueKit
public import Idealize.ShloMosaic.Lib.Pointwise
public import proofs.«01_k».proof.Proof.MixSpec

@[expose] public section

set_option maxRecDepth 16384

noncomputable section

namespace Cert.Reference3Ideal.Mix

open Cert.Reference3Ideal Cert.Reference3Ideal.Gen Cert.Reference3Ideal.Read Cert.Layer
open Idealize.ShloMosaic Idealize.ShloMosaic.TcCoe Idealize.SL.Sem

variable (OA : FVec Ideal S16384x1024 .bf16) (P : FVec Ideal S16384x6144 .bf16) (X : FVec Ideal S8x2048x2048 .f32) (M : FVec Ideal S16x12288 .f32)
  (WC : FVec Ideal S1x3x1024 .f32) (GC : FVec Ideal S1x8x128 .f32) (WO : FVec Ideal S1x2048x2048 .f32) (G2 : FVec Ideal S1x2048 .f32)

/-- The gated input of the convolution at an index. -/
theorem z_at (b : Fin 8) (p : Fin 2048) (c : Fin 1024) (R : Fin 16384) (hR : (R : ℕ) = b * 2048 + p) :
    val_main_v11 (F := Ideal) P (ix3 b p c) = zAt P R c := by
  have e : (⟨(b : ℕ) * 2048 + p, by omega⟩ : Fin 16384) = R := Fin.ext hR.symm
  generalize hz : zAt P R c = z
  pointwise [val_main_v11, val_main_v9, val_main_v8, val_main_v6, val_main_v5]
  subst hz
  unfold zAt
  rw [← e]

/-- The padding's number. -/
theorem zero_int : FloatOps.sitofp (F := Ideal) .f32 (0#32) = 0 := by
  show (((0#32 : BitVec 32).toInt : ℝ) : EReal) = 0
  simp

/-- The gated convolution at an index. -/
theorem conv_at (b : Fin 8) (p : Fin 2048) (c : Fin 1024) (R : Fin 16384) (hR : (R : ℕ) = b * 2048 + p) :
    val_main_v33 (F := Ideal) P WC (ix3 b p c) = convAt P WC R c := by
  generalize hz : convAt P WC R c = z
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_call0_v0, val_main_c, val_main_v10, val_main_v7, val_main_v6, val_main_v5]
  rw [zero_int]
  subst hz
  have e : (⟨(b : ℕ) * 2048 + p, by omega⟩ : Fin 16384) = R := Fin.ext hR.symm
  unfold convAt
  refine congrArg₂ (· * ·) (congrArg (fun q => P (ix2 q _)) e) (congrArg₂ (· + ·) (congrArg₂ (· + ·) (congrArg (_ * ·) ?_) (congrArg (_ * ·) ?_)) (congrArg (_ * ·) ?_))
  · by_cases h : (p : ℕ) = 0
    · rw [dif_neg (by omega), dif_pos (by omega)]
    · rw [dif_pos (by omega), dif_neg (by omega)]
      exact z_at P b _ c _ (show (R : ℕ) - 1 = b * 2048 + (p - 1) by omega)
  · exact z_at P b p c R hR
  · by_cases h : (p : ℕ) = 2047
    · rw [dif_neg (by omega), dif_pos (by omega)]
    · rw [dif_pos (by omega), dif_neg (by omega)]
      exact z_at P b _ c _ (show (R : ℕ) + 1 = b * 2048 + (2 + p - 1) by omega)

/-- The normalised convolution at an index. -/
theorem convNorm_at (b : Fin 8) (p : Fin 2048) (c : Fin 1024) (R : Fin 16384) (hR : (R : ℕ) = b * 2048 + p) :
    val_main_v49 (F := Ideal) P WC GC (ix3 b p c) = convNormAt P WC GC R c := by
  generalize hz : convNormAt P WC GC R c = z
  pointwise [val_main_v49, val_main_v48, val_main_v47, val_main_v46, val_main_v45, val_main_v44, val_main_v43, val_main_v42, val_main_v41, val_main_v40, val_main_v39, val_main_v38, val_main_v37, val_main_v36, val_main_v35, val_main_v34, val_main_cst, val_main_cst_0, val_main_cst_1]
  subst hz
  have e : (⟨(c : ℕ) / 128 * 128 + c % 128, by omega⟩ : Fin 1024) = c := Fin.ext (by show (c : ℕ) / 128 * 128 + (c : ℕ) % 128 = c; omega)
  unfold convNormAt rms128 rstd
  simp only [conv_at P WC b p _ R hR, e]

/-- The output projection at an index. -/
theorem mix_at (b : Fin 8) (p : Fin 2048) (e : Fin 2048) (R : Fin 16384) (hR : (R : ℕ) = b * 2048 + p) :
    val_main_v54 (F := Ideal) OA P WC GC WO (ix3 b p e) = mixAt OA P WC GC WO R e := by
  generalize hz : mixAt OA P WC GC WO R e = z
  pointwise [val_main_v54, val_main_v53, val_main_v52, val_main_v51, val_main_v50]
  subst hz
  have e : (⟨(b : ℕ) * 2048 + p, by omega⟩ : Fin 16384) = R := Fin.ext hR.symm
  unfold mixAt
  refine congrArg₂ (· + ·) ?_ ?_
  · exact Finset.sum_congr rfl fun k _ => congrArg (· * _) (congrArg (fun q => OA (ix2 q _)) e)
  · exact Finset.sum_congr rfl fun k _ => congrArg (· * _) (convNorm_at P WC GC b p k R hR)

/-- The residual sum at an index. -/
theorem resid_at (b : Fin 8) (p : Fin 2048) (e : Fin 2048) (R : Fin 16384) (hR : (R : ℕ) = b * 2048 + p) :
    val_main_v57 (F := Ideal) OA P X M WC GC WO (ix3 b p e) = residAt OA P X M WC GC WO R e := by
  generalize hz : residAt OA P X M WC GC WO R e = z
  pointwise [val_main_v57, val_main_v56, val_main_v55, val_main_v2, val_main_v1, val_main_v0]
  subst hz
  have e0 : (⟨(R : ℕ) / 2048, by omega⟩ : Fin 8) = b := Fin.ext (by show (R : ℕ) / 2048 = b; omega)
  have e1 : (⟨(R : ℕ) % 2048, by omega⟩ : Fin 2048) = p := Fin.ext (by show (R : ℕ) % 2048 = p; omega)
  have e2 : (⟨(R : ℕ) / 2048, by omega⟩ : Fin 16) = ⟨b, by omega⟩ := Fin.ext (by show (R : ℕ) / 2048 = b; omega)
  unfold residAt
  rw [mix_at OA P WC GC WO b p e R hR, e0, e1, e2]

/-- The normed residual sum at an index. -/
theorem normed_at (b : Fin 8) (p : Fin 2048) (e : Fin 2048) (R : Fin 16384) (hR : (R : ℕ) = b * 2048 + p) :
    val_main_v77 (F := Ideal) OA P X M WC GC WO G2 (ix3 b p e) = normedAt OA P X M WC GC WO G2 R e := by
  generalize hz : normedAt OA P X M WC GC WO G2 R e = z
  pointwise [val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_cst_2, val_main_cst_3, val_main_cst_4, val_main_cst_5, val_main_v4, val_main_v3, val_main_v1, val_main_v0]
  subst hz
  have e2 : (⟨(R : ℕ) / 2048, by omega⟩ : Fin 16) = ⟨b, by omega⟩ := Fin.ext (by show (R : ℕ) / 2048 = b; omega)
  unfold normedAt rstd
  simp only [resid_at OA P X M WC GC WO b p _ R hR, e2]

/-- The reference's first result at an index. -/
theorem ref_resid_at (R : Fin 16384) (e : Fin 2048) :
    val_main_v78 (F := Ideal) OA P X M WC GC WO (ix2 R e) = residAt OA P X M WC GC WO R e := by
  generalize hz : residAt OA P X M WC GC WO R e = z
  pointwise [val_main_v78]
  subst hz
  exact resid_at OA P X M WC GC WO _ _ e R (show (R : ℕ) = R / 2048 * 2048 + R % 2048 by omega)

/-- The reference's second result at an index. -/
theorem ref_normed_at (R : Fin 16384) (e : Fin 2048) :
    val_main_v80 (F := Ideal) OA P X M WC GC WO G2 (ix2 R e) = normedAt OA P X M WC GC WO G2 R e := by
  generalize hz : normedAt OA P X M WC GC WO G2 R e = z
  pointwise [val_main_v80, val_main_v79]
  subst hz
  exact normed_at OA P X M WC GC WO G2 _ _ e R (show (R : ℕ) = R / 2048 * 2048 + R % 2048 by omega)

end Cert.Reference3Ideal.Mix

end
-- ==== Proof.MixFinal.lean ====
module

public import proofs.«01_k».proof.Proof.MixBlock
public import proofs.«01_k».proof.Proof.MixRef
public import proofs.«01_k».proof.Proof.Gen.Reference3Ideal.Run
public import proofs.«01_k».proof.Defs

@[expose] public section

set_option maxRecDepth 16384

noncomputable section

namespace Cert.Kernel3Ideal.Mix

open Cert.Kernel3Ideal Cert.Kernel3Ideal.Gen Idealize.ShloMosaic Idealize.ShloMosaic.TcCoe Idealize.SL.Sem Cert.Layer
open Idealize.ShloMosaic.Pipeline (Dat)

variable (m : (ℓ : Loc nD τ sig) → Buf (Elt Ideal) ℓ)

/-- Where each window stands at a grid point. -/
theorem idx : ∀ t : Fin cfg0.N, win0_0.index t = ![t.val, 0] ∧ win0_1.index t = ![t.val, 3] ∧ win0_2.index t = ![t.val, 4] ∧ win0_3.index t = ![t.val, 5]
    ∧ win0_4.index t = ![t.val * 16 - 1, 4] ∧ win0_5.index t = ![t.val * 16 - 1, 5]
    ∧ win0_6.index t = ![min (t.val * 16 + 16) 1023, 4] ∧ win0_7.index t = ![min (t.val * 16 + 16) 1023, 5]
    ∧ win0_8.index t = ![t.val, 0] ∧ win0_9.index t = ![0, 0] ∧ win0_10.index t = ![0, 0] ∧ win0_11.index t = ![0, 0]
    ∧ win0_12.index t = ![t.val / 8, 0, 2] ∧ win0_13.index t = ![0, 0] ∧ win0_14.index t = ![t.val / 8, 0, 3] ∧ win0_15.index t = ![t.val / 8, 0, 4]
    ∧ win0_16.index t = ![t.val, 0] ∧ win0_17.index t = ![t.val, 0] ∧ t.val < 64 :=
  (by decide +kernel : ∀ t : Fin grid0.N, _)

/-- The attention's rows. -/
theorem blk0 (c : Dev nD) (t : Fin cfg0.N) (r : Fin 256) (k : Fin 1024) (R : Fin 16384) (hR : (R : ℕ) = t.val * 256 + r) :
    (show FVec Ideal S256x1024 .bf16 from iblk m c 0 t) (ix2 r k)
      = (show FVec Ideal S16384x1024 .bf16 from m ((c : Thread nD τ).loc main_arg0)) (ix2 R k) := by
  blk_simp [iblk, idx t]
  entry_read
  pointwise
  blk_ext [idx t]

/-- The rows of the outer gate. -/
theorem blk1 (c : Dev nD) (t : Fin cfg0.N) (r : Fin 256) (k : Fin 1024) (R : Fin 16384) (hR : (R : ℕ) = t.val * 256 + r) :
    (show FVec Ideal S256x1024 .bf16 from iblk m c 1 t) (ix2 r k)
      = (show FVec Ideal S16384x6144 .bf16 from m ((c : Thread nD τ).loc main_arg1)) (ix2 R ⟨3072 + k, by omega⟩) := by
  blk_simp [iblk, idx t]
  entry_read
  pointwise
  blk_ext [idx t]

/-- The rows of the inner gate. -/
theorem blk2 (c : Dev nD) (t : Fin cfg0.N) (r : Fin 256) (k : Fin 1024) (R : Fin 16384) (hR : (R : ℕ) = t.val * 256 + r) :
    (show FVec Ideal S256x1024 .bf16 from iblk m c 2 t) (ix2 r k)
      = (show FVec Ideal S16384x6144 .bf16 from m ((c : Thread nD τ).loc main_arg1)) (ix2 R ⟨4096 + k, by omega⟩) := by
  blk_simp [iblk, idx t]
  entry_read
  pointwise
  blk_ext [idx t]

/-- The rows of the convolution's input. -/
theorem blk3 (c : Dev nD) (t : Fin cfg0.N) (r : Fin 256) (k : Fin 1024) (R : Fin 16384) (hR : (R : ℕ) = t.val * 256 + r) :
    (show FVec Ideal S256x1024 .bf16 from iblk m c 3 t) (ix2 r k)
      = (show FVec Ideal S16384x6144 .bf16 from m ((c : Thread nD τ).loc main_arg1)) (ix2 R ⟨5120 + k, by omega⟩) := by
  blk_simp [iblk, idx t]
  entry_read
  pointwise
  blk_ext [idx t]

/-- The row before the block, of the inner gate. -/
theorem blk4 (c : Dev nD) (t : Fin cfg0.N) (k : Fin 1024) (R : Fin 16384) (hR : (R : ℕ) + 1 = t.val * 256) :
    (show FVec Ideal S16x1024 .bf16 from iblk m c 4 t) (ix2 15 k)
      = (show FVec Ideal S16384x6144 .bf16 from m ((c : Thread nD τ).loc main_arg1)) (ix2 R ⟨4096 + k, by omega⟩) := by
  blk_simp [iblk, idx t]
  entry_read
  pointwise
  blk_ext [idx t]

/-- The row before the block, of the convolution's input. -/
theorem blk5 (c : Dev nD) (t : Fin cfg0.N) (k : Fin 1024) (R : Fin 16384) (hR : (R : ℕ) + 1 = t.val * 256) :
    (show FVec Ideal S16x1024 .bf16 from iblk m c 5 t) (ix2 15 k)
      = (show FVec Ideal S16384x6144 .bf16 from m ((c : Thread nD τ).loc main_arg1)) (ix2 R ⟨5120 + k, by omega⟩) := by
  blk_simp [iblk, idx t]
  entry_read
  pointwise
  blk_ext [idx t]

/-- The row after the block, of the inner gate. -/
theorem blk6 (c : Dev nD) (t : Fin cfg0.N) (k : Fin 1024) (R : Fin 16384) (hR : (R : ℕ) = t.val * 256 + 256) :
    (show FVec Ideal S16x1024 .bf16 from iblk m c 6 t) (ix2 0 k)
      = (show FVec Ideal S16384x6144 .bf16 from m ((c : Thread nD τ).loc main_arg1)) (ix2 R ⟨4096 + k, by omega⟩) := by
  blk_simp [iblk, idx t]
  entry_read
  pointwise
  blk_ext [idx t]

/-- The row after the block, of the convolution's input. -/
theorem blk7 (c : Dev nD) (t : Fin cfg0.N) (k : Fin 1024) (R : Fin 16384) (hR : (R : ℕ) = t.val * 256 + 256) :
    (show FVec Ideal S16x1024 .bf16 from iblk m c 7 t) (ix2 0 k)
      = (show FVec Ideal S16384x6144 .bf16 from m ((c : Thread nD τ).loc main_arg1)) (ix2 R ⟨5120 + k, by omega⟩) := by
  blk_simp [iblk, idx t]
  entry_read
  pointwise
  blk_ext [idx t]

/-- The rows of the residual stream. -/
theorem blk8 (c : Dev nD) (t : Fin cfg0.N) (r : Fin 256) (k : Fin 2048) (R : Fin 16384) (hR : (R : ℕ) = t.val * 256 + r) :
    (show FVec Ideal S256x2048 .f32 from iblk m c 8 t) (ix2 r k)
      = (show FVec Ideal S8x2048x2048 .f32 from m ((c : Thread nD τ).loc main_arg2)) (ix3 ⟨R / 2048, by omega⟩ ⟨R % 2048, by omega⟩ k) := by
  blk_simp [iblk, idx t]
  entry_read
  pointwise
  blk_ext [idx t]

/-- The convolution's weights. -/
theorem blk9 (c : Dev nD) (t : Fin cfg0.N) (j : Fin 3) (k : Fin 1024) :
    (show FVec Ideal S3x1024 .f32 from iblk m c 9 t) (ix2 j k)
      = (show FVec Ideal S1x3x1024 .f32 from m ((c : Thread nD τ).loc main_arg4)) (ix3 0 j k) := by
  blk_simp [iblk, idx t]
  entry_read
  pointwise
  blk_ext [idx t]

/-- The weights of the groups' norms. -/
theorem blk10 (c : Dev nD) (t : Fin cfg0.N) (k : Fin 1024) :
    (show FVec Ideal S1x1024 .f32 from iblk m c 10 t) (ix2 0 k)
      = (show FVec Ideal S1x8x128 .f32 from m ((c : Thread nD τ).loc main_arg5)) (ix3 0 ⟨k / 128, by omega⟩ ⟨k % 128, by omega⟩) := by
  blk_simp [iblk, idx t]
  entry_read
  pointwise
  blk_ext [idx t]

/-- The weights of the output projection. -/
theorem blk11 (c : Dev nD) (t : Fin cfg0.N) (k : Fin 2048) (e : Fin 2048) :
    (show FVec Ideal S2048x2048 .bf16 from iblk m c 11 t) (ix2 k e)
      = (show FVec Ideal S1x2048x2048 .f32 from m ((c : Thread nD τ).loc main_arg6)) (ix3 0 k e) := by
  blk_simp [iblk, idx t]
  entry_read
  pointwise
  blk_ext [idx t]

/-- The row of gates. -/
theorem blk12 (c : Dev nD) (t : Fin cfg0.N) (r : Fin 256) (k : Fin 2048) (R : Fin 16384) (hR : (R : ℕ) = t.val * 256 + r) :
    (show FVec Ideal S1x1x2048 .f32 from iblk m c 12 t) (ix3 0 0 k)
      = (show FVec Ideal S16x12288 .f32 from m ((c : Thread nD τ).loc main_arg3)) (ix2 ⟨R / 2048, by omega⟩ ⟨4096 + k, by omega⟩) := by
  blk_simp [iblk, idx t]
  entry_read
  pointwise
  blk_ext [idx t]

/-- The row of shifts. -/
theorem blk14 (c : Dev nD) (t : Fin cfg0.N) (r : Fin 256) (k : Fin 2048) (R : Fin 16384) (hR : (R : ℕ) = t.val * 256 + r) :
    (show FVec Ideal S1x1x2048 .f32 from iblk m c 14 t) (ix3 0 0 k)
      = (show FVec Ideal S16x12288 .f32 from m ((c : Thread nD τ).loc main_arg3)) (ix2 ⟨R / 2048, by omega⟩ ⟨6144 + k, by omega⟩) := by
  blk_simp [iblk, idx t]
  entry_read
  pointwise
  blk_ext [idx t]

/-- The row of scales. -/
theorem blk15 (c : Dev nD) (t : Fin cfg0.N) (r : Fin 256) (k : Fin 2048) (R : Fin 16384) (hR : (R : ℕ) = t.val * 256 + r) :
    (show FVec Ideal S1x1x2048 .f32 from iblk m c 15 t) (ix3 0 0 k)
      = (show FVec Ideal S16x12288 .f32 from m ((c : Thread nD τ).loc main_arg3)) (ix2 ⟨R / 2048, by omega⟩ ⟨8192 + k, by omega⟩) := by
  blk_simp [iblk, idx t]
  entry_read
  pointwise
  blk_ext [idx t]

/-- The weights of the norm. -/
theorem blk13 (c : Dev nD) (t : Fin cfg0.N) (k : Fin 2048) :
    (show FVec Ideal S1x2048 .f32 from iblk m c 13 t) (ix2 0 k)
      = (show FVec Ideal S1x2048 .f32 from m ((c : Thread nD τ).loc main_arg7)) (ix2 0 k) := by
  blk_simp [iblk, idx t]
  entry_read
  pointwise
  blk_ext [idx t]

/-- The bit saying that a block does not begin its sequence. -/
theorem begins : ∀ t : Fin grid0.N, Scalar.cmpi .sgt
    (Scalar.select (Scalar.andi (Scalar.xori (Scalar.cmpi .slt (Scalar.remsi (Scalar.muli (BitVec.ofNat 32 (grid0.coords t 0).val) 256#32) (Scalar.select (Scalar.cmpi .eq 2048#32 0#32) 1#32 2048#32)) 0#32)
        (Scalar.cmpi .slt (Scalar.select (Scalar.cmpi .eq 2048#32 0#32) 1#32 2048#32) 0#32))
      (Scalar.cmpi .ne (Scalar.remsi (Scalar.muli (BitVec.ofNat 32 (grid0.coords t 0).val) 256#32) (Scalar.select (Scalar.cmpi .eq 2048#32 0#32) 1#32 2048#32)) 0#32))
      (Scalar.addi (Scalar.remsi (Scalar.muli (BitVec.ofNat 32 (grid0.coords t 0).val) 256#32) (Scalar.select (Scalar.cmpi .eq 2048#32 0#32) 1#32 2048#32)) (Scalar.select (Scalar.cmpi .eq 2048#32 0#32) 1#32 2048#32))
      (Scalar.remsi (Scalar.muli (BitVec.ofNat 32 (grid0.coords t 0).val) 256#32) (Scalar.select (Scalar.cmpi .eq 2048#32 0#32) 1#32 2048#32))) 0#32
    = if t.val % 8 = 0 then 0#1 else 1#1 := by decide +kernel

/-- The bit saying that a block does not end its sequence. -/
theorem ends : ∀ t : Fin grid0.N, Scalar.cmpi .slt (Scalar.addi
    (Scalar.select (Scalar.andi (Scalar.xori (Scalar.cmpi .slt (Scalar.remsi (Scalar.muli (BitVec.ofNat 32 (grid0.coords t 0).val) 256#32) (Scalar.select (Scalar.cmpi .eq 2048#32 0#32) 1#32 2048#32)) 0#32)
        (Scalar.cmpi .slt (Scalar.select (Scalar.cmpi .eq 2048#32 0#32) 1#32 2048#32) 0#32))
      (Scalar.cmpi .ne (Scalar.remsi (Scalar.muli (BitVec.ofNat 32 (grid0.coords t 0).val) 256#32) (Scalar.select (Scalar.cmpi .eq 2048#32 0#32) 1#32 2048#32)) 0#32))
      (Scalar.addi (Scalar.remsi (Scalar.muli (BitVec.ofNat 32 (grid0.coords t 0).val) 256#32) (Scalar.select (Scalar.cmpi .eq 2048#32 0#32) 1#32 2048#32)) (Scalar.select (Scalar.cmpi .eq 2048#32 0#32) 1#32 2048#32))
      (Scalar.remsi (Scalar.muli (BitVec.ofNat 32 (grid0.coords t 0).val) 256#32) (Scalar.select (Scalar.cmpi .eq 2048#32 0#32) 1#32 2048#32))) 256#32) 2048#32
    = if t.val % 8 = 7 then 0#1 else 1#1 := by decide +kernel

/-- The convolution's input before the block's first row. -/
theorem before_at (c : Dev nD) (t : Fin cfg0.N) (k : Fin 1024) (R : Fin 16384) (hR : (R : ℕ) = t.val * 256) :
    k0_pay4 (F := Ideal) (grid0.coords t) (View.ld (Val := Elt Ideal) (e' := .bf16) (iblk m c 4 t) r0_1) (View.ld (Val := Elt Ideal) (e' := .bf16) (iblk m c 5 t) r0_1) (ix2 0 k)
      = if h : (R : ℕ) % 2048 = 0 then 0 else zAt (show FVec Ideal S16384x6144 .bf16 from m ((c : Thread nD τ).loc main_arg1)) ⟨R - 1, by omega⟩ k := by
  have hb := begins t
  unfold k0_pay4
  dsimp only
  rw [hb]
  by_cases h : t.val % 8 = 0
  · rw [if_pos h, dif_pos (show (R : ℕ) % 2048 = 0 by omega)]
    pointwise
  · rw [if_neg h, dif_neg (show ¬ (R : ℕ) % 2048 = 0 by omega)]
    generalize hz : zAt (show FVec Ideal S16384x6144 .bf16 from m ((c : Thread nD τ).loc main_arg1)) ⟨R - 1, by omega⟩ k = z
    pointwise
    subst hz
    exact congrArg₂ (· * ·) (blk4 m c t k ⟨R - 1, by omega⟩ (by show (R : ℕ) - 1 + 1 = _; omega)) (blk5 m c t k ⟨R - 1, by omega⟩ (by show (R : ℕ) - 1 + 1 = _; omega))

/-- The convolution's input after the block's last row. -/
theorem after_at (c : Dev nD) (t : Fin cfg0.N) (k : Fin 1024) (R : Fin 16384) (hR : (R : ℕ) = t.val * 256 + 255) :
    k0_pay5 (F := Ideal) (grid0.coords t) (View.ld (Val := Elt Ideal) (e' := .bf16) (iblk m c 6 t) r0_2) (View.ld (Val := Elt Ideal) (e' := .bf16) (iblk m c 7 t) r0_2) (ix2 0 k)
      = if h : (R : ℕ) % 2048 = 2047 then 0 else zAt (show FVec Ideal S16384x6144 .bf16 from m ((c : Thread nD τ).loc main_arg1)) ⟨R + 1, by omega⟩ k := by
  have hb := ends t
  unfold k0_pay5
  dsimp only
  rw [hb]
  by_cases h : t.val % 8 = 7
  · rw [if_pos h, dif_pos (show (R : ℕ) % 2048 = 2047 by omega)]
    pointwise
  · rw [if_neg h, dif_neg (show ¬ (R : ℕ) % 2048 = 2047 by omega)]
    generalize hz : zAt (show FVec Ideal S16384x6144 .bf16 from m ((c : Thread nD τ).loc main_arg1)) ⟨R + 1, by omega⟩ k = z
    pointwise
    subst hz
    exact congrArg₂ (· * ·) (blk6 m c t k ⟨R + 1, by omega⟩ (by show (R : ℕ) + 1 = _; omega)) (blk7 m c t k ⟨R + 1, by omega⟩ (by show (R : ℕ) + 1 = _; omega))

/-- The convolution's input at a row of the block. -/
theorem mid_at (c : Dev nD) (t : Fin cfg0.N) (r : Fin 256) (k : Fin 1024) (R : Fin 16384) (hR : (R : ℕ) = t.val * 256 + r) :
    (show FVec Ideal S256x1024 .bf16 from iblk m c 2 t) (ix2 r k) * (show FVec Ideal S256x1024 .bf16 from iblk m c 3 t) (ix2 r k) = zAt (show FVec Ideal S16384x6144 .bf16 from m ((c : Thread nD τ).loc main_arg1)) R k :=
  congrArg₂ (· * ·) (blk2 m c t r k R hR) (blk3 m c t r k R hR)

/-- The block's convolution at an index. -/
theorem conv_at (c : Dev nD) (t : Fin cfg0.N) (r : Fin 256) (k : Fin 1024) (R : Fin 16384) (hR : (R : ℕ) = t.val * 256 + r) :
    k0_pay25 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r k) = convAt (show FVec Ideal S16384x6144 .bf16 from m ((c : Thread nD τ).loc main_arg1)) (show FVec Ideal S1x3x1024 .f32 from m ((c : Thread nD τ).loc main_arg4)) R k := by
  refine (pay25_at _ _ _ _ _ _ _ _ _ _ _ _ _ _ _ _ _ r k).trans ?_
  unfold convAt
  refine congrArg₂ (· * ·) (blk1 m c t r k R hR) (congrArg₂ (· + ·) (congrArg₂ (· + ·) (congrArg₂ (· * ·) (blk9 m c t 0 k) ?_)
    (congrArg₂ (· * ·) (blk9 m c t 1 k) (mid_at m c t r k R hR))) (congrArg₂ (· * ·) (blk9 m c t 2 k) ?_))
  · by_cases h : (r : ℕ) = 0
    · rw [dif_pos h]
      exact before_at m c t k R (by omega)
    · rw [dif_neg h, dif_neg (by omega)]
      exact mid_at m c t ⟨r - 1, by omega⟩ k ⟨R - 1, by omega⟩ (by show (R : ℕ) - 1 = t.val * 256 + ((r : ℕ) - 1); omega)
  · by_cases h : (r : ℕ) = 255
    · rw [dif_pos h]
      exact after_at m c t k R (by omega)
    · rw [dif_neg h, dif_neg (by omega)]
      exact mid_at m c t ⟨r + 1, by omega⟩ k ⟨R + 1, by omega⟩ (by show (R : ℕ) + 1 = t.val * 256 + ((r : ℕ) + 1); omega)

/-- The block's normalised convolution at an index. -/
theorem convNorm_at (c : Dev nD) (t : Fin cfg0.N) (r : Fin 256) (k : Fin 1024) (R : Fin 16384) (hR : (R : ℕ) = t.val * 256 + r) :
    normBlock (k0_pay25 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (iblk m c 10 t) r k = convNormAt (show FVec Ideal S16384x6144 .bf16 from m ((c : Thread nD τ).loc main_arg1)) (show FVec Ideal S1x3x1024 .f32 from m ((c : Thread nD τ).loc main_arg4)) (show FVec Ideal S1x8x128 .f32 from m ((c : Thread nD τ).loc main_arg5)) R k := by
  unfold normBlock convNormAt
  refine congrArg₂ (· * ·) (congrArg (fun f => rms128 f _) (funext fun l => ?_)) (blk10 m c t k)
  exact conv_at m c t r _ R hR

/-- The block's residual sum at an index. -/
theorem resid_at (c : Dev nD) (t : Fin cfg0.N) (r : Fin 256) (e : Fin 2048) (R : Fin 16384) (hR : (R : ℕ) = t.val * 256 + r) :
    (show FVec Ideal S256x2048 .f32 from iblk m c 8 t) (ix2 r e) + k0_pay27 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r e)
      = residAt (show FVec Ideal S16384x1024 .bf16 from m ((c : Thread nD τ).loc main_arg0)) (show FVec Ideal S16384x6144 .bf16 from m ((c : Thread nD τ).loc main_arg1)) (show FVec Ideal S8x2048x2048 .f32 from m ((c : Thread nD τ).loc main_arg2)) (show FVec Ideal S16x12288 .f32 from m ((c : Thread nD τ).loc main_arg3)) (show FVec Ideal S1x3x1024 .f32 from m ((c : Thread nD τ).loc main_arg4)) (show FVec Ideal S1x8x128 .f32 from m ((c : Thread nD τ).loc main_arg5)) (show FVec Ideal S1x2048x2048 .f32 from m ((c : Thread nD τ).loc main_arg6)) R e := by
  unfold residAt mixAt
  refine congrArg₂ (· + ·) (blk8 m c t r e R hR) ((pay27_at _ _ _ _ _ _ _ _ _ _ _ _ _ _ _ _ _ r e).trans ?_)
  refine congrArg₂ (· * ·) (blk12 m c t r e R hR) (congrArg₂ (· + ·) (Finset.sum_congr rfl fun k _ => ?_) (Finset.sum_congr rfl fun k _ => ?_))
  · exact congrArg₂ (· * ·) (blk0 m c t r k R hR) (blk11 m c t _ e)
  · exact congrArg₂ (· * ·) (convNorm_at m c t r k R hR) (blk11 m c t _ e)

/-- The first stored block at an index. -/
theorem block16_at (c : Dev nD) (t : Fin cfg0.N) (r : Fin 256) (e : Fin 2048) (R : Fin 16384) (hR : (R : ℕ) = t.val * 256 + r) :
    out0_16 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r e) = residAt (show FVec Ideal S16384x1024 .bf16 from m ((c : Thread nD τ).loc main_arg0)) (show FVec Ideal S16384x6144 .bf16 from m ((c : Thread nD τ).loc main_arg1)) (show FVec Ideal S8x2048x2048 .f32 from m ((c : Thread nD τ).loc main_arg2)) (show FVec Ideal S16x12288 .f32 from m ((c : Thread nD τ).loc main_arg3)) (show FVec Ideal S1x3x1024 .f32 from m ((c : Thread nD τ).loc main_arg4)) (show FVec Ideal S1x8x128 .f32 from m ((c : Thread nD τ).loc main_arg5)) (show FVec Ideal S1x2048x2048 .f32 from m ((c : Thread nD τ).loc main_arg6)) R e :=
  (out16_at _ _ _ _ _ _ _ _ _ _ _ _ _ _ _ _ _ r e).trans (resid_at m c t r e R hR)

/-- The second stored block at an index. -/
theorem block17_at (c : Dev nD) (t : Fin cfg0.N) (r : Fin 256) (e : Fin 2048) (R : Fin 16384) (hR : (R : ℕ) = t.val * 256 + r) :
    out0_17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r e) = normedAt (show FVec Ideal S16384x1024 .bf16 from m ((c : Thread nD τ).loc main_arg0)) (show FVec Ideal S16384x6144 .bf16 from m ((c : Thread nD τ).loc main_arg1)) (show FVec Ideal S8x2048x2048 .f32 from m ((c : Thread nD τ).loc main_arg2)) (show FVec Ideal S16x12288 .f32 from m ((c : Thread nD τ).loc main_arg3)) (show FVec Ideal S1x3x1024 .f32 from m ((c : Thread nD τ).loc main_arg4)) (show FVec Ideal S1x8x128 .f32 from m ((c : Thread nD τ).loc main_arg5)) (show FVec Ideal S1x2048x2048 .f32 from m ((c : Thread nD τ).loc main_arg6)) (show FVec Ideal S1x2048 .f32 from m ((c : Thread nD τ).loc main_arg7)) R e := by
  refine (out17_at _ _ _ _ _ _ _ _ _ _ _ _ _ _ _ _ _ r e).trans ?_
  unfold normedAt
  refine congrArg₂ (· + ·) (congrArg₂ (· * ·) (congrArg₂ (· * ·) (congrArg₂ (· * ·) ?_ (congrArg (rstd _) (funext fun j => ?_))) ?_) (congrArg (1 + ·) ?_)) ?_
  · exact resid_at m c t r e R hR
  · exact resid_at m c t r j R hR
  · exact blk13 m c t e
  · exact blk15 m c t r e R hR
  · exact blk14 m c t r e R hR

/-- The call's first result is the reference's. -/
theorem final16 (c : Dev nD) : (dats m 0 c).arrAt 16 (cfgs 0).N
    = Cert.Reference3Ideal.Read.val_main_v78 (F := Ideal) (show FVec Ideal S16384x1024 .bf16 from m ((c : Thread nD τ).loc main_arg0)) (show FVec Ideal S16384x6144 .bf16 from m ((c : Thread nD τ).loc main_arg1)) (show FVec Ideal S8x2048x2048 .f32 from m ((c : Thread nD τ).loc main_arg2)) (show FVec Ideal S16x12288 .f32 from m ((c : Thread nD τ).loc main_arg3)) (show FVec Ideal S1x3x1024 .f32 from m ((c : Thread nD τ).loc main_arg4)) (show FVec Ideal S1x8x128 .f32 from m ((c : Thread nD τ).loc main_arg5)) (show FVec Ideal S1x2048x2048 .f32 from m ((c : Thread nD τ).loc main_arg6)) := by
  refine (dats m 0 c).arrAt_eq_of_covers 16 _ (by decide +kernel) fun t _ y => ?_
  blk_simp
  rw [after0_16]
  have ht := (idx t).2.2.2.2.2.2.2.2.2.2.2.2.2.2.2.2.2.2
  idx_vars y
  refine (block16_at m c t y0 y1 ⟨t.val * 256 + y0, by omega⟩ rfl).trans ?_
  rw [← Cert.Reference3Ideal.Mix.ref_resid_at]
  blk_ext [idx t]

/-- The call's second result is the reference's. -/
theorem final17 (c : Dev nD) : (dats m 0 c).arrAt 17 (cfgs 0).N
    = Cert.Reference3Ideal.Read.val_main_v80 (F := Ideal) (show FVec Ideal S16384x1024 .bf16 from m ((c : Thread nD τ).loc main_arg0)) (show FVec Ideal S16384x6144 .bf16 from m ((c : Thread nD τ).loc main_arg1)) (show FVec Ideal S8x2048x2048 .f32 from m ((c : Thread nD τ).loc main_arg2)) (show FVec Ideal S16x12288 .f32 from m ((c : Thread nD τ).loc main_arg3)) (show FVec Ideal S1x3x1024 .f32 from m ((c : Thread nD τ).loc main_arg4)) (show FVec Ideal S1x8x128 .f32 from m ((c : Thread nD τ).loc main_arg5)) (show FVec Ideal S1x2048x2048 .f32 from m ((c : Thread nD τ).loc main_arg6)) (show FVec Ideal S1x2048 .f32 from m ((c : Thread nD τ).loc main_arg7)) := by
  refine (dats m 0 c).arrAt_eq_of_covers 17 _ (by decide +kernel) fun t _ y => ?_
  blk_simp
  rw [after0_17]
  have ht := (idx t).2.2.2.2.2.2.2.2.2.2.2.2.2.2.2.2.2.2
  idx_vars y
  refine (block17_at m c t y0 y1 ⟨t.val * 256 + y0, by omega⟩ rfl).trans ?_
  rw [← Cert.Reference3Ideal.Mix.ref_normed_at]
  blk_ext [idx t]

end Cert.Kernel3Ideal.Mix

namespace Cert.Mix

open Idealize.ShloMosaic Idealize.ShloMosaic.TcCoe Idealize.SL.Sem

/-- Over the ideal numbers the call's two results are the reference's. -/
theorem algebraic : @Cert.algebraic_Kernel3Ideal_Reference3Ideal Cert.Kernel3Ideal.Gen.facts Cert.Reference3Ideal.Gen.facts := by
  intro m g m' g' _ hag
  refine ⟨fun c => (Cert.Kernel3Ideal.Gen.dats m 0 c).arrAt 16 Cert.Kernel3Ideal.cfg0.N, fun c => (Cert.Kernel3Ideal.Gen.dats m 0 c).arrAt 17 Cert.Kernel3Ideal.cfg0.N, ?_, ?_⟩
  · exact Cert.Kernel3Ideal.Value.run_blocks m g
  · refine (θ_run _ _ _).mono (fun r h c => ?_) (Cert.Reference3Ideal.Value.run (F := Ideal) m' g')
    obtain ⟨h0, h1, hk⟩ := h c
    obtain ⟨a0, a1, a2, a3, a4, a5, a6, a7⟩ := hag c
    refine ⟨?_, ?_, hk⟩
    · rw [h0]
      refine Eq.trans ?_ (Cert.Kernel3Ideal.Mix.final16 m c).symm
      refine (Cert.Reference3Ideal.Read.val_main_v78_eq m' c).trans ?_
      rw [a0, a1, a2, a3, a4, a5, a6]
    · rw [h1]
      refine Eq.trans ?_ (Cert.Kernel3Ideal.Mix.final17 m c).symm
      refine (Cert.Reference3Ideal.Read.val_main_v80_eq m' c).trans ?_
      rw [a0, a1, a2, a3, a4, a5, a6, a7]

end Cert.Mix

end
-- ==== Proof.CtxSpec.lean ====
module

public import proofs.«01_k».proof.Proof.InProjSpec

@[expose] public section

set_option maxRecDepth 16384

noncomputable section

namespace Cert.Layer

open Idealize.ShloMosaic

variable (X : FVec Ideal ⟨3, ![8, 256, 2048]⟩ .f32) (M : FVec Ideal ⟨2, ![16, 12288]⟩ .f32) (G : FVec Ideal ⟨2, ![1, 2048]⟩ .f32)
    (W : FVec Ideal ⟨3, ![1, 2048, 6144]⟩ .f32) (K : FVec Ideal ⟨2, ![1, 128]⟩ .f32)

/-- Entry `k` of row `R` of the modulated normalised context. -/
def ctxHAt (R : Fin 2048) (k : Fin 2048) : EReal :=
  X (ix3 ⟨R / 256, by omega⟩ ⟨R % 256, by omega⟩ k)
      * rstd 0x45000000#32 (fun i : Fin 2048 => X (ix3 ⟨R / 256, by omega⟩ ⟨R % 256, by omega⟩ i))
      * G (ix2 0 k) * (1 + M (ix2 8 ⟨2048 + k, by omega⟩))
    + M (ix2 8 ⟨k, by omega⟩)

/-- Column `c` of row `R` of the product with the keys' and values' weights (zero past the last column). -/
def ctxProjAt (R : Fin 2048) (c : ℕ) : EReal :=
  ∑ k : Fin 2048, ctxHAt X M G R k * (if h : c < 2048 then W (ix3 0 k ⟨1024 + c, by omega⟩) else 0)

/-- The context's projection: keys normalised, values as they are. -/
def ctxAt (R : Fin 2048) (c : ℕ) : EReal :=
  if c < 1024 then rms128 (fun l => ctxProjAt X M G W R (c / 128 * 128 + l)) ⟨c % 128, by omega⟩ * K (ix2 0 ⟨c % 128, by omega⟩)
  else ctxProjAt X M G W R c

/-- The product at a column inside the array. -/
theorem ctxProjAt_in (R : Fin 2048) (c : Fin 2048) (e : ℕ) (h : e = c) :
    ctxProjAt X M G W R e = ∑ k : Fin 2048, ctxHAt X M G R k * W (ix3 0 k ⟨1024 + c, by omega⟩) := by
  subst h
  exact Finset.sum_congr rfl fun k _ => congrArg (_ * ·) (dif_pos c.isLt)

/-- A key column. -/
theorem ctxAt_k (R : Fin 2048) (c : ℕ) (h : c < 1024) :
    ctxAt X M G W K R c = ctxProjAt X M G W R (c / 128 * 128 + c % 128)
      * rstd 0x43000000#32 (fun l : Fin 128 => ctxProjAt X M G W R (c / 128 * 128 + l)) * K (ix2 0 ⟨c % 128, by omega⟩) := by
  unfold ctxAt
  rw [if_pos h]
  rfl

/-- A value column. -/
theorem ctxAt_v (R : Fin 2048) (c : ℕ) (h : ¬ c < 1024) : ctxAt X M G W K R c = ctxProjAt X M G W R c := by
  unfold ctxAt
  rw [if_neg h]

end Cert.Layer

end
-- ==== Proof.CtxBlock.lean ====
module

public import proofs.«01_k».proof.Proof.Gen.Kernel4Ideal.Value
public import Idealize.ShloMosaic.Lib.Pipeline.ValueKit
public import Idealize.ShloMosaic.Lib.Pointwise
public import proofs.«01_k».proof.Proof.CtxSpec

@[expose] public section

set_option maxRecDepth 16384

noncomputable section

namespace Cert.Kernel4Ideal.Ctx

open Cert.Kernel4Ideal Cert.Kernel4Ideal.Gen Idealize.ShloMosaic Idealize.ShloMosaic.TcCoe Idealize.SL.Sem Cert.Layer

/-- Column `c` of row `r` of a block of normalised rows times the weights (zero past the last column). -/
def accAt (hb : FVec Ideal S256x2048 .bf16) (w : FVec Ideal S2048x2048 .bf16) (r : Fin 256) (c : ℕ) : EReal :=
  ∑ k : Fin 2048, hb (ix2 r k) * (if h : c < 2048 then w (ix2 k ⟨c, h⟩) else 0)

/-- The block of the result: the first 1024 columns normalised head by head, the others the product. -/
def blockAt (hb : FVec Ideal S256x2048 .bf16) (w : FVec Ideal S2048x2048 .bf16) (g : FVec Ideal S1x1024 .f32)
    (r : Fin 256) (c : ℕ) : EReal :=
  if c < 1024 then
    rms128 (fun l => accAt hb w r (c / 128 * 128 + l)) ⟨c % 128, by omega⟩ * g (ix2 0 ⟨c % 1024, by omega⟩)
  else accAt hb w r c

/-- A column of a normalised head, the head's first column named. -/
theorem blockAt_norm (hb : FVec Ideal S256x2048 .bf16) (w : FVec Ideal S2048x2048 .bf16) (g : FVec Ideal S1x1024 .f32)
    (r : Fin 256) (o : ℕ) (l : Fin 128) (ho : o + 128 ≤ 1024) (hd : o % 128 = 0) :
    blockAt hb w g r (o + l) =
      rms128 (fun l => ∑ k : Fin 2048, hb (ix2 r k) * w (ix2 k ⟨o + l, by omega⟩)) l * g (ix2 0 ⟨o + l, by omega⟩) := by
  have hl := l.isLt
  have e1 : (o + (l : ℕ)) / 128 * 128 = o := by omega
  have e2 : (⟨(o + (l : ℕ)) % 128, by omega⟩ : Fin 128) = l := Fin.ext (by show (o + (l : ℕ)) % 128 = l; omega)
  have e3 : (⟨(o + (l : ℕ)) % 1024, by omega⟩ : Fin 1024) = ⟨o + l, by omega⟩ := Fin.ext (by show (o + (l : ℕ)) % 1024 = o + l; omega)
  unfold blockAt
  rw [if_pos (by omega), e1, e2, e3]
  refine congrArg (· * _) (congrArg (rms128 · l) (funext fun i => ?_))
  have hi := i.isLt
  exact Finset.sum_congr rfl fun k _ => congrArg (_ * ·) (dif_pos (by omega))

/-- A column past the heads. -/
theorem blockAt_plain (hb : FVec Ideal S256x2048 .bf16) (w : FVec Ideal S2048x2048 .bf16) (g : FVec Ideal S1x1024 .f32)
    (r : Fin 256) (o : ℕ) (l : Fin 128) (ho : 1024 ≤ o) (hd : o + 128 ≤ 2048) :
    blockAt hb w g r (o + l) = ∑ k : Fin 2048, hb (ix2 r k) * w (ix2 k ⟨o + l, by omega⟩) := by
  have hl := l.isLt
  unfold blockAt accAt
  rw [if_neg (by omega)]
  exact Finset.sum_congr rfl fun k _ => congrArg (_ * ·) (dif_pos (by omega))

set_option maxHeartbeats 2000000 in
/-- What the body leaves in the output block: every one of its sixteen stores is a piece of one function of the block. -/
theorem out_at (A0 : FVec Ideal S256x2048 .f32) (A1 A2 : FVec Ideal S1x1x2048 .f32) (A3 : FVec Ideal S1x2048 .f32)
    (A4 : FVec Ideal S2048x2048 .bf16) (A5 : FVec Ideal S1x1024 .f32) (y : S256x2048.Idx) :
    out0_6 (F := Ideal) A0 A1 A2 A3 A4 A5 y
      = blockAt (k0_pay3 (View.ld A0 r0_0) (View.ld A3 r0_1) (View.ld A2 r0_2) (View.ld A1 r0_2)) A4 A5 (y 0) (y 1) := by
  canon_tiles x h
  all_goals
    idx_vars x
    idx_vars y
    obtain rfl : y0 = x0 := Fin.ext h0
    first
      | refine Eq.trans ?_ ((congrArg (blockAt _ _ _ _) h1).trans (blockAt_plain _ _ _ _ _ _ (by decide) (by decide))).symm
      | refine Eq.trans ?_ ((congrArg (blockAt _ _ _ _) h1).trans (blockAt_norm _ _ _ _ _ _ (by decide) (by decide))).symm
      | refine Eq.trans ?_ ((congrArg (blockAt _ _ _ _) (h1.trans (Nat.zero_add _).symm)).trans (blockAt_norm _ _ _ _ _ _ (by decide) (by decide))).symm
    open_payloads
    pointwise [rms128, rstd] <;> (try simp only [← Nat.add_assoc, Nat.reduceAdd, Nat.zero_add])

end Cert.Kernel4Ideal.Ctx

end
-- ==== Proof.CtxRef.lean ====
module

public import proofs.«01_k».proof.Proof.Gen.Reference4Ideal.Read
public import Idealize.ShloMosaic.Lib.Pipeline.ValueKit
public import Idealize.ShloMosaic.Lib.Pointwise
public import proofs.«01_k».proof.Proof.CtxSpec

@[expose] public section

set_option maxRecDepth 16384

noncomputable section

namespace Cert.Reference4Ideal.Ctx

open Cert.Reference4Ideal Cert.Reference4Ideal.Gen Cert.Reference4Ideal.Read Cert.Layer
open Idealize.ShloMosaic Idealize.ShloMosaic.TcCoe Idealize.SL.Sem

variable (X : FVec Ideal S8x256x2048 .f32) (M : FVec Ideal S16x12288 .f32) (G : FVec Ideal S1x2048 .f32)
    (W : FVec Ideal S1x2048x6144 .f32) (K : FVec Ideal S1x128 .f32)

/-- The modulated normalised context at an index. -/
theorem h_at (b : Fin 8) (p : Fin 256) (k : Fin 2048) (R : Fin 2048) (hb : (R : ℕ) / 256 = b) (hp : (R : ℕ) % 256 = p) :
    val_main_v24 (F := Ideal) X M G (ix3 b p k) = ctxHAt X M G R k := by
  have e0 : (⟨(R : ℕ) / 256, by omega⟩ : Fin 8) = b := Fin.ext hb
  have e1 : (⟨(R : ℕ) % 256, by omega⟩ : Fin 256) = p := Fin.ext hp
  unfold ctxHAt rstd
  rw [e0, e1]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5]

/-- The product with the weights at an index. -/
theorem proj_at (b : Fin 8) (p : Fin 256) (e : Fin 2048) (R : Fin 2048) (hb : (R : ℕ) / 256 = b) (hp : (R : ℕ) % 256 = p)
    (n : ℕ) (hn : n = e) :
    val_main_v27 (F := Ideal) X M G W (ix3 b p e) = ctxProjAt X M G W R n := by
  rw [ctxProjAt_in X M G W R e n hn]
  pointwise [val_main_v25, val_main_v26, val_main_v27]
  exact Finset.sum_congr rfl fun k _ => congrArg (· * _) (h_at X M G b p k R hb hp)

/-- The reference's result at an index. -/
theorem ref_at (R : Fin 2048) (c : Fin 2048) :
    val_main_v48 (F := Ideal) X M G W K (ix2 R c) = ctxAt X M G W K R c := by
  have hc := c.isLt
  generalize hz : ctxAt X M G W K R c = z
  pointwise [val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst, val_main_cst_0, val_main_cst_1, val_main_cst_2, val_main_cst_3, val_main_cst_4, val_main_cst_5]
  have hp : ∀ (n : ℕ) (h : n < 2048) (n' : ℕ), n = n' →
      val_main_v27 (F := Ideal) X M G W (ix3 ⟨R / 256, by omega⟩ ⟨R % 256, by omega⟩ ⟨n, h⟩) = ctxProjAt X M G W R n' :=
    fun n h n' e => proj_at X M G W _ _ ⟨n, h⟩ R rfl rfl n' e.symm
  by_cases h1 : (c : ℕ) < 1024
  · refine Eq.trans ?_ ((ctxAt_k X M G W K R c h1).symm.trans hz)
    rw [dif_pos h1]
    unfold rstd
    refine congrArg₂ (· * ·) (congrArg₂ (· * ·) ?_ ?_) ?_
    · exact hp _ _ _ rfl
    · refine congrArg Ideal.rsqrt (congrArg₂ (· + ·) ?_ ?_)
      · refine congrArg₂ Ideal.div ?_ ?_
        · refine Finset.sum_congr rfl fun x _ => ?_
          refine congrArg₂ (· * ·) ?_ ?_
          · exact hp _ _ _ rfl
          · exact hp _ _ _ rfl
        · rfl
      · rfl
    · rfl
  · refine Eq.trans ?_ ((ctxAt_v X M G W K R c h1).symm.trans hz)
    rw [dif_neg h1]
    exact hp _ _ _ (show 1024 + ((c : ℕ) - 1024) = (c : ℕ) by omega)

end Cert.Reference4Ideal.Ctx

end
-- ==== Proof.CtxFinal.lean ====
module

public import proofs.«01_k».proof.Proof.CtxBlock
public import proofs.«01_k».proof.Proof.CtxRef
public import proofs.«01_k».proof.Proof.Gen.Reference4Ideal.Run
public import proofs.«01_k».proof.Defs

@[expose] public section

set_option maxRecDepth 16384

noncomputable section

namespace Cert.Kernel4Ideal.Ctx

open Cert.Kernel4Ideal Cert.Kernel4Ideal.Gen Idealize.ShloMosaic Idealize.ShloMosaic.TcCoe Idealize.SL.Sem Cert.Layer
open Idealize.ShloMosaic.Pipeline (Dat)

variable (m : (ℓ : Loc nD τ sig) → Buf (Elt Ideal) ℓ)

/-- Where each window stands at a grid point. -/
theorem idx : ∀ t : Fin cfg0.N, win0_0.index t = ![t.val, 0] ∧ win0_1.index t = ![8, 0, 0]
    ∧ win0_2.index t = ![8, 0, 1] ∧ win0_3.index t = ![0, 0] ∧ win0_4.index t = ![0, 0]
    ∧ win0_5.index t = ![0, 0] ∧ win0_6.index t = ![t.val, 0] ∧ t.val < 8 :=
  (by decide +kernel : ∀ t : Fin grid0.N, _)

/-- The block of rows of the context. -/
theorem blk0 (c : Dev nD) (t : Fin cfg0.N) (r : Fin 256) (k : Fin 2048) (R : Fin 2048) (hR : (R : ℕ) = t.val * 256 + r) :
    (show FVec Ideal S256x2048 .f32 from iblk m c 0 t) (ix2 r k)
      = (show FVec Ideal S8x256x2048 .f32 from m ((c : Thread nD τ).loc main_arg0)) (ix3 ⟨R / 256, by omega⟩ ⟨R % 256, by omega⟩ k) := by
  blk_simp [iblk, idx t]
  entry_read
  pointwise
  blk_ext [idx t]

/-- The row of shifts. -/
theorem blk1 (c : Dev nD) (t : Fin cfg0.N) (k : Fin 2048) :
    (show FVec Ideal S1x1x2048 .f32 from iblk m c 1 t) (ix3 0 0 k)
      = (show FVec Ideal S16x12288 .f32 from m ((c : Thread nD τ).loc main_arg1)) (ix2 8 ⟨k, by omega⟩) := by
  blk_simp [iblk, idx t]
  entry_read
  pointwise
  blk_ext [idx t]

/-- The row of scales. -/
theorem blk2 (c : Dev nD) (t : Fin cfg0.N) (k : Fin 2048) :
    (show FVec Ideal S1x1x2048 .f32 from iblk m c 2 t) (ix3 0 0 k)
      = (show FVec Ideal S16x12288 .f32 from m ((c : Thread nD τ).loc main_arg1)) (ix2 8 ⟨2048 + k, by omega⟩) := by
  blk_simp [iblk, idx t]
  entry_read
  pointwise
  blk_ext [idx t]

/-- The weights of the norm. -/
theorem blk3 (c : Dev nD) (t : Fin cfg0.N) (k : Fin 2048) :
    (show FVec Ideal S1x2048 .f32 from iblk m c 3 t) (ix2 0 k)
      = (show FVec Ideal S1x2048 .f32 from m ((c : Thread nD τ).loc main_arg2)) (ix2 0 k) := by
  blk_simp [iblk, idx t]
  entry_read
  pointwise
  blk_ext [idx t]

/-- The weights of the projection. -/
theorem blk4 (c : Dev nD) (t : Fin cfg0.N) (k : Fin 2048) (e : Fin 2048) :
    (show FVec Ideal S2048x2048 .bf16 from iblk m c 4 t) (ix2 k e)
      = (show FVec Ideal S1x2048x6144 .f32 from m ((c : Thread nD τ).loc main_arg3)) (ix3 0 k ⟨1024 + e, by omega⟩) := by
  blk_simp [iblk, idx t]
  entry_read
  pointwise
  blk_ext [idx t]

/-- The weights of the heads' norms. -/
theorem blk5 (c : Dev nD) (t : Fin cfg0.N) (e : Fin 1024) :
    (show FVec Ideal S1x1024 .f32 from iblk m c 5 t) (ix2 0 e)
      = (show FVec Ideal S1x128 .f32 from m ((c : Thread nD τ).loc main_arg4)) (ix2 0 ⟨e % 128, by omega⟩) := by
  blk_simp [iblk, idx t]
  entry_read
  pointwise
  blk_ext [idx t]

/-- The modulated normalised rows of the block. -/
theorem h_at (c : Dev nD) (t : Fin cfg0.N) (r : Fin 256) (k : Fin 2048) (R : Fin 2048) (hR : (R : ℕ) = t.val * 256 + r) :
    k0_pay3 (F := Ideal) (View.ld (iblk m c 0 t) r0_0) (View.ld (iblk m c 3 t) r0_1) (View.ld (iblk m c 2 t) r0_2) (View.ld (iblk m c 1 t) r0_2) (ix2 r k) = ctxHAt (show FVec Ideal S8x256x2048 .f32 from m ((c : Thread nD τ).loc main_arg0)) (show FVec Ideal S16x12288 .f32 from m ((c : Thread nD τ).loc main_arg1)) (show FVec Ideal S1x2048 .f32 from m ((c : Thread nD τ).loc main_arg2)) R k := by
  generalize hz : ctxHAt (show FVec Ideal S8x256x2048 .f32 from m ((c : Thread nD τ).loc main_arg0)) (show FVec Ideal S16x12288 .f32 from m ((c : Thread nD τ).loc main_arg1)) (show FVec Ideal S1x2048 .f32 from m ((c : Thread nD τ).loc main_arg2)) R k = z
  pointwise [k0_pay3]
  refine (?_ : (show FVec Ideal S256x2048 .f32 from iblk m c 0 t) (ix2 r k)
      * rstd 0x45000000#32 (fun i : Fin 2048 => (show FVec Ideal S256x2048 .f32 from iblk m c 0 t) (ix2 r i))
      * (show FVec Ideal S1x2048 .f32 from iblk m c 3 t) (ix2 0 k)
      * (1 + (show FVec Ideal S1x1x2048 .f32 from iblk m c 2 t) (ix3 0 0 k))
      + (show FVec Ideal S1x1x2048 .f32 from iblk m c 1 t) (ix3 0 0 k) = _)
  rw [blk1 m c t k, blk2 m c t k, blk3 m c t k, blk0 m c t r k R hR, funext fun i => blk0 m c t r i R hR]
  exact hz

/-- The product's column of the block. -/
theorem acc_at (c : Dev nD) (t : Fin cfg0.N) (r : Fin 256) (R : Fin 2048) (hR : (R : ℕ) = t.val * 256 + r) (n : ℕ) :
    accAt (k0_pay3 (F := Ideal) (View.ld (iblk m c 0 t) r0_0) (View.ld (iblk m c 3 t) r0_1) (View.ld (iblk m c 2 t) r0_2) (View.ld (iblk m c 1 t) r0_2)) (iblk m c 4 t) r n = ctxProjAt (show FVec Ideal S8x256x2048 .f32 from m ((c : Thread nD τ).loc main_arg0)) (show FVec Ideal S16x12288 .f32 from m ((c : Thread nD τ).loc main_arg1)) (show FVec Ideal S1x2048 .f32 from m ((c : Thread nD τ).loc main_arg2)) (show FVec Ideal S1x2048x6144 .f32 from m ((c : Thread nD τ).loc main_arg3)) R n := by
  unfold accAt ctxProjAt
  refine Finset.sum_congr rfl fun k _ => ?_
  rw [h_at m c t r k R hR]
  refine congrArg _ ?_
  split
  · exact blk4 m c t k _
  · rfl

/-- The stored block at an index is the projection at the index of the array. -/
theorem block_at (c : Dev nD) (t : Fin cfg0.N) (r : Fin 256) (R : Fin 2048) (hR : (R : ℕ) = t.val * 256 + r) (n : Fin 2048) :
    out0_6 (F := Ideal) (iblk m c 0 t) (iblk m c 1 t) (iblk m c 2 t) (iblk m c 3 t) (iblk m c 4 t) (iblk m c 5 t) (ix2 r n)
      = ctxAt (show FVec Ideal S8x256x2048 .f32 from m ((c : Thread nD τ).loc main_arg0)) (show FVec Ideal S16x12288 .f32 from m ((c : Thread nD τ).loc main_arg1)) (show FVec Ideal S1x2048 .f32 from m ((c : Thread nD τ).loc main_arg2)) (show FVec Ideal S1x2048x6144 .f32 from m ((c : Thread nD τ).loc main_arg3)) (show FVec Ideal S1x128 .f32 from m ((c : Thread nD τ).loc main_arg4)) R n := by
  rw [out_at]
  show blockAt _ _ _ r n = _
  unfold blockAt ctxAt
  by_cases h1 : (n : ℕ) < 1024
  · have hg := blk5 m c t ⟨(n : ℕ) % 1024, by omega⟩
    have e1 : (n : ℕ) % 1024 = n := by omega
    rw [if_pos h1, if_pos h1]
    refine (congrArg (_ * ·) hg).trans ?_
    simp only [e1]
    exact congrArg (fun f => rms128 f _ * _) (funext fun l => acc_at m c t r R hR _)
  · rw [if_neg h1, if_neg h1]
    exact acc_at m c t r R hR _

/-- The call's result is the reference's array. -/
theorem final (c : Dev nD) : (dats m 0 c).arrAt 6 (cfgs 0).N
    = Cert.Reference4Ideal.Read.val_main_v48 (F := Ideal) (show FVec Ideal S8x256x2048 .f32 from m ((c : Thread nD τ).loc main_arg0)) (show FVec Ideal S16x12288 .f32 from m ((c : Thread nD τ).loc main_arg1)) (show FVec Ideal S1x2048 .f32 from m ((c : Thread nD τ).loc main_arg2)) (show FVec Ideal S1x2048x6144 .f32 from m ((c : Thread nD τ).loc main_arg3)) (show FVec Ideal S1x128 .f32 from m ((c : Thread nD τ).loc main_arg4)) := by
  refine (dats m 0 c).arrAt_eq_of_covers 6 _ (by decide +kernel) fun t _ y => ?_
  blk_simp
  rw [after0_6]
  have ht := (idx t).2.2.2.2.2.2.2
  idx_vars y
  refine (block_at m c t y0 ⟨t.val * 256 + y0, by omega⟩ rfl y1).trans ?_
  rw [← Cert.Reference4Ideal.Ctx.ref_at]
  blk_ext [idx t]

end Cert.Kernel4Ideal.Ctx

namespace Cert.Ctx

open Idealize.ShloMosaic Idealize.ShloMosaic.TcCoe Idealize.SL.Sem

/-- Over the ideal numbers the call's result is the reference's. -/
theorem algebraic : @Cert.algebraic_Kernel4Ideal_Reference4Ideal Cert.Kernel4Ideal.Gen.facts Cert.Reference4Ideal.Gen.facts := by
  intro m g m' g' _ hag
  refine ⟨fun c => (Cert.Kernel4Ideal.Gen.dats m 0 c).arrAt 6 Cert.Kernel4Ideal.cfg0.N, ?_, ?_⟩
  · exact Cert.Kernel4Ideal.Value.run_blocks m g
  · refine (θ_run _ _ _).mono (fun r h c => ?_) (Cert.Reference4Ideal.Value.run (F := Ideal) m' g')
    obtain ⟨h0, hk⟩ := h c
    refine ⟨?_, hk⟩
    rw [h0]
    obtain ⟨a0, a1, a2, a3, a4⟩ := hag c
    refine Eq.trans ?_ (Cert.Kernel4Ideal.Ctx.final m c).symm
    refine (Cert.Reference4Ideal.Read.val_main_v48_eq m' c).trans ?_
    rw [a0, a1, a2, a3, a4]

end Cert.Ctx

end
-- ==== Proof.Ada.lean ====
module

public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.ValueKit
public import Idealize.ShloMosaic.Lib.Pointwise
public import proofs.«01_k».proof.Defs

@[expose] public section

set_option maxRecDepth 16384

noncomputable section

namespace Cert.Layer

open Idealize.ShloMosaic

/-- The modulation: the gated conditioning times the weights, and the bias. -/
def adaAt (C : FVec Ideal ⟨2, ![16, 2048]⟩ .f32) (W : FVec Ideal ⟨3, ![1, 2048, 12288]⟩ .f32) (B : FVec Ideal ⟨2, ![1, 12288]⟩ .f32)
    (r : Fin 16) (e : Fin 12288) : EReal :=
  (∑ k : Fin 2048, C (ix2 r k) * Ideal.div 1 (1 + Ideal.exp (-C (ix2 r k))) * W (ix3 0 k e)) + B (ix2 0 e)

end Cert.Layer

namespace Cert.Reference5Ideal.Ada

open Cert.Reference5Ideal Cert.Reference5Ideal.Gen Cert.Reference5Ideal.Read Cert.Layer
open Idealize.ShloMosaic Idealize.ShloMosaic.TcCoe Idealize.SL.Sem

/-- The reference's result at an index. -/
theorem ref_at (C : FVec Ideal S16x2048 .f32) (W : FVec Ideal S1x2048x12288 .f32) (B : FVec Ideal S1x12288 .f32) (r : Fin 16) (e : Fin 12288) :
    val_main_v6 (F := Ideal) C W B (ix2 r e) = adaAt C W B r e := by
  generalize hz : adaAt C W B r e = z
  pointwise [val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  subst hz
  rfl

end Cert.Reference5Ideal.Ada

namespace Cert.Kernel5Ideal.Ada

open Cert.Kernel5Ideal Cert.Kernel5Ideal.Gen Idealize.ShloMosaic Idealize.ShloMosaic.TcCoe Idealize.SL.Sem Cert.Layer
open Idealize.ShloMosaic.Pipeline (Dat)

variable (m : (ℓ : Loc nD τ sig) → Buf (Elt Ideal) ℓ)

/-- Where each window stands at a grid point. -/
theorem idx : ∀ t : Fin cfg0.N, win0_0.index t = ![0, 0] ∧ win0_1.index t = ![0, t.val]
    ∧ win0_2.index t = ![0, t.val] ∧ win0_3.index t = ![0, t.val] ∧ t.val < 12 :=
  (by decide +kernel : ∀ t : Fin grid0.N, _)

/-- The conditioning. -/
theorem blk0 (c : Dev nD) (t : Fin cfg0.N) (r : Fin 16) (k : Fin 2048) :
    (show FVec Ideal S16x2048 .f32 from iblk m c 0 t) (ix2 r k)
      = (show FVec Ideal S16x2048 .f32 from m ((c : Thread nD τ).loc main_arg0)) (ix2 r k) := by
  blk_simp [iblk, idx t]
  entry_read
  pointwise
  blk_ext [idx t]

/-- The block of columns of the weights. -/
theorem blk1 (c : Dev nD) (t : Fin cfg0.N) (k : Fin 2048) (e : Fin 1024) (E : Fin 12288) (hE : (E : ℕ) = t.val * 1024 + e) :
    (show FVec Ideal S2048x1024 .f32 from iblk m c 1 t) (ix2 k e)
      = (show FVec Ideal S1x2048x12288 .f32 from m ((c : Thread nD τ).loc main_arg1)) (ix3 0 k E) := by
  blk_simp [iblk, idx t]
  entry_read
  pointwise
  blk_ext [idx t]

/-- The block of the bias. -/
theorem blk2 (c : Dev nD) (t : Fin cfg0.N) (e : Fin 1024) (E : Fin 12288) (hE : (E : ℕ) = t.val * 1024 + e) :
    (show FVec Ideal S1x1024 .f32 from iblk m c 2 t) (ix2 0 e)
      = (show FVec Ideal S1x12288 .f32 from m ((c : Thread nD τ).loc main_arg2)) (ix2 0 E) := by
  blk_simp [iblk, idx t]
  entry_read
  pointwise
  blk_ext [idx t]

/-- The body's block at an index. -/
theorem out_at (A0 : FVec Ideal S16x2048 .f32) (A1 : FVec Ideal S2048x1024 .f32) (A2 : FVec Ideal S1x1024 .f32) (r : Fin 16) (e : Fin 1024) :
    out0_3 (F := Ideal) A0 A1 A2 (ix2 r e)
      = (∑ k : Fin 2048, A0 (ix2 r k) * Ideal.div 1 (1 + Ideal.exp (-A0 (ix2 r k))) * A1 (ix2 k e)) + A2 (ix2 0 e) := by
  have h : out0_3 (F := Ideal) A0 A1 A2 = k0_pay1 (F := Ideal) (View.ld (Val := Elt Ideal) (e' := .f32) A0 r0_0) (View.ld (Val := Elt Ideal) (e' := .f32) A1 r0_1) (View.ld (Val := Elt Ideal) (e' := .f32) A2 r0_2) := by
    unfold out0_3
    frame_out
  rw [h]
  generalize hz : (∑ k : Fin 2048, A0 (ix2 r k) * Ideal.div 1 (1 + Ideal.exp (-A0 (ix2 r k))) * A1 (ix2 k e)) + A2 (ix2 0 e) = z
  pointwise [k0_pay1]
  subst hz
  rfl

/-- The stored block at an index is the modulation at the index of the array. -/
theorem block_at (c : Dev nD) (t : Fin cfg0.N) (r : Fin 16) (e : Fin 1024) (E : Fin 12288) (hE : (E : ℕ) = t.val * 1024 + e) :
    out0_3 (F := Ideal) (iblk m c 0 t) (iblk m c 1 t) (iblk m c 2 t) (ix2 r e) = adaAt (show FVec Ideal S16x2048 .f32 from m ((c : Thread nD τ).loc main_arg0)) (show FVec Ideal S1x2048x12288 .f32 from m ((c : Thread nD τ).loc main_arg1)) (show FVec Ideal S1x12288 .f32 from m ((c : Thread nD τ).loc main_arg2)) r E := by
  refine (out_at _ _ _ r e).trans ?_
  unfold adaAt
  refine congrArg₂ (· + ·) (Finset.sum_congr rfl fun k _ => ?_) (blk2 m c t e E hE)
  exact congrArg₂ (· * ·) (congrArg (fun x : EReal => x * Ideal.div 1 (1 + Ideal.exp (-x))) (blk0 m c t r k)) (blk1 m c t k e E hE)

/-- The call's result is the reference's array. -/
theorem final (c : Dev nD) : (dats m 0 c).arrAt 3 (cfgs 0).N = Cert.Reference5Ideal.Read.val_main_v6 (F := Ideal) (show FVec Ideal S16x2048 .f32 from m ((c : Thread nD τ).loc main_arg0)) (show FVec Ideal S1x2048x12288 .f32 from m ((c : Thread nD τ).loc main_arg1)) (show FVec Ideal S1x12288 .f32 from m ((c : Thread nD τ).loc main_arg2)) := by
  refine (dats m 0 c).arrAt_eq_of_covers 3 _ (by decide +kernel) fun t _ y => ?_
  blk_simp
  rw [after0_3]
  have ht := (idx t).2.2.2.2
  idx_vars y
  refine (block_at m c t y0 y1 ⟨t.val * 1024 + y1, by omega⟩ rfl).trans ?_
  rw [← Cert.Reference5Ideal.Ada.ref_at]
  blk_ext [idx t]

end Cert.Kernel5Ideal.Ada

namespace Cert.Ada

open Idealize.ShloMosaic Idealize.ShloMosaic.TcCoe Idealize.SL.Sem

/-- Over the ideal numbers the call's result is the reference's. -/
theorem algebraic : @Cert.algebraic_Kernel5Ideal_Reference5Ideal Cert.Kernel5Ideal.Gen.facts Cert.Reference5Ideal.Gen.facts := by
  intro m g m' g' _ hag
  refine ⟨fun c => (Cert.Kernel5Ideal.Gen.dats m 0 c).arrAt 3 Cert.Kernel5Ideal.cfg0.N, ?_, ?_⟩
  · exact Cert.Kernel5Ideal.Value.run_blocks m g
  · refine (θ_run _ _ _).mono (fun r h c => ?_) (Cert.Reference5Ideal.Value.run (F := Ideal) m' g')
    obtain ⟨h0, hk⟩ := h c
    refine ⟨?_, hk⟩
    rw [h0]
    obtain ⟨a0, a1, a2⟩ := hag c
    refine Eq.trans ?_ (Cert.Kernel5Ideal.Ada.final m c).symm
    rw [← a0, ← a1, ← a2]
    exact Cert.Reference5Ideal.Read.val_main_v6_eq _ _ _

end Cert.Ada

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.InProjFinal
public import proofs.«01_k».proof.Proof.MixFinal
public import proofs.«01_k».proof.Proof.CtxFinal
public import proofs.«01_k».proof.Proof.Ada
public import proofs.«01_k».proof.Proof.Gen.Kernel3Ideal.Value
public import proofs.«01_k».proof.Proof.Gen.Reference3Ideal.Read
public import Idealize.ShloMosaic.Adequacy
public import Idealize.ShloMosaic.Init

@[expose] public section

noncomputable section

namespace Cert.Proof

open Idealize.ShloMosaic Idealize.SL.Sem Cert.Kernel

/-- The reference of the attention call runs, keeps its arguments and leaves every counter at zero. -/
theorem frame_r1 : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the input projection runs, keeps its arguments and leaves every counter at zero. -/
theorem frame_r2 : @Cert.quiescent_Reference2Ideal Cert.Reference2Ideal.Gen.facts := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of the mixing call runs, keeps its arguments and leaves every counter at zero. -/
theorem frame_r3 : @Cert.quiescent_Reference3Ideal Cert.Reference3Ideal.Gen.facts := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The reference of the context's projection runs, keeps its arguments and leaves every counter at zero. -/
theorem frame_r4 : @Cert.quiescent_Reference4Ideal Cert.Reference4Ideal.Gen.facts := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference of the modulation runs, keeps its arguments and leaves every counter at zero. -/
theorem frame_r5 : @Cert.quiescent_Reference5Ideal Cert.Reference5Ideal.Gen.facts := fun m ρ _ =>
  (θ_run Cert.Reference5Ideal.defs _ _).mono (fun r h => ⟨fun c => (h c).2, sem_eq_zero_of_no_sems (by decide) r.2⟩)
    (Cert.Reference5Ideal.Value.run (F := Ideal) m ρ)

/-- The whole claim: frames of the fifteen programs, the kernels kept, and the value claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  fun m ρ _ => Cert.Kernel.Gen.frame m ρ, fun m ρ _ => Cert.KernelIdeal.Gen.frame m ρ, frame_r1,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  trivial, trivial, Cert.InProj.algebraic, trivial, Cert.Mix.algebraic, trivial, Cert.Ctx.algebraic, trivial, Cert.Ada.algebraic⟩

end Cert.Proof

end
